-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)) (v6 : (c : Dev Cert.Kernel3Ideal.nD) → Buf (Elt Ideal) ((c.tc : Thread Cert.Kernel3Ideal.nD Cert.Kernel3Ideal.τ).loc Cert.Kernel3Ideal.main_v2_6)) (v7 : (c : Dev Cert.Kernel3Ideal.nD) → Buf (Elt Ideal) ((c.tc : Thread Cert.Kernel3Ideal.nD Cert.Kernel3Ideal.τ).loc Cert.Kernel3Ideal.main_v2_7)) (v8 : (c : Dev Cert.Kernel3Ideal.nD) → Buf (Elt Ideal) ((c.tc : Thread Cert.Kernel3Ideal.nD Cert.Kernel3Ideal.τ).loc Cert.Kernel3Ideal.main_v2_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_v2_6) = v6 c
          ∧ r.2.mem ((c.tc : Thread Cert.Kernel3Ideal.nD Cert.Kernel3Ideal.τ).loc Cert.Kernel3Ideal.main_v2_7) = v7 c
          ∧ r.2.mem ((c.tc : Thread Cert.Kernel3Ideal.nD Cert.Kernel3Ideal.τ).loc Cert.Kernel3Ideal.main_v2_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v18) = v2 c
          ∧ r.2.mem ((c.tc : Thread Cert.Reference3Ideal.nD Cert.Reference3Ideal.τ).loc Cert.Reference3Ideal.main_v19) = v3 c
          ∧ r.2.mem ((c.tc : Thread Cert.Reference3Ideal.nD Cert.Reference3Ideal.τ).loc Cert.Reference3Ideal.main_v20) = v4 c
          ∧ r.2.mem ((c.tc : Thread Cert.Reference3Ideal.nD Cert.Reference3Ideal.τ).loc Cert.Reference3Ideal.main_v21) = v5 c
          ∧ r.2.mem ((c.tc : Thread Cert.Reference3Ideal.nD Cert.Reference3Ideal.τ).loc Cert.Reference3Ideal.main_v22) = v6 c
          ∧ r.2.mem ((c.tc : Thread Cert.Reference3Ideal.nD Cert.Reference3Ideal.τ).loc Cert.Reference3Ideal.main_v23) = v7 c
          ∧ r.2.mem ((c.tc : Thread Cert.Reference3Ideal.nD Cert.Reference3Ideal.τ).loc Cert.Reference3Ideal.main_v25) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v91) = v0 c
          ∧ r.2.mem ((c.tc : Thread Cert.Reference6Ideal.nD Cert.Reference6Ideal.τ).loc Cert.Reference6Ideal.main_v93) = v1 c
          ∧ r.2.mem ((c.tc : Thread Cert.Reference6Ideal.nD Cert.Reference6Ideal.τ).loc Cert.Reference6Ideal.main_v77) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_v60) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S16384x512 : Shape := ⟨2, ![16384, 512]⟩
abbrev S8x3x512 : Shape := ⟨3, ![8, 3, 512]⟩
abbrev S8x1x512 : Shape := ⟨3, ![8, 1, 512]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S2048x512 : Shape := ⟨2, ![2048, 512]⟩
abbrev S1x3x512 : Shape := ⟨3, ![1, 3, 512]⟩
abbrev S1x1x512 : Shape := ⟨3, ![1, 1, 512]⟩
abbrev S2056x512 : Shape := ⟨2, ![2056, 512]⟩
abbrev S8x512 : Shape := ⟨2, ![8, 512]⟩
abbrev S3x512 : Shape := ⟨2, ![3, 512]⟩
abbrev S32x8x512 : Shape := ⟨3, ![32, 8, 512]⟩
abbrev S264x512 : Shape := ⟨2, ![264, 512]⟩
abbrev S256x512 : Shape := ⟨2, ![256, 512]⟩
abbrev S1x8x512 : Shape := ⟨3, ![1, 8, 512]⟩

abbrev nBuf : Space → Nat
  | .hbm => 46
  | .vmem => 22
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S8x3x512, .f32⟩
  | .hbm, ⟨3, _⟩ => ⟨S8x1x512, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S8x64x1x64, .f32⟩
  | .hbm, ⟨20, _⟩ => ⟨S8x1x8x1, .f32⟩
  | .hbm, ⟨21, _⟩ => ⟨S8x64x8x64, .f32⟩
  | .hbm, ⟨22, _⟩ => ⟨S8x64x8x64, .f32⟩
  | .hbm, ⟨23, _⟩ => ⟨S8x64x8x64, .f32⟩
  | .hbm, ⟨24, _⟩ => ⟨S512x512, .f32⟩
  | .hbm, ⟨25, _⟩ => ⟨S512x512, .bf16⟩
  | .hbm, ⟨26, _⟩ => ⟨S1x512, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S8x64x1x64, .f32⟩
  | .hbm, ⟨35, _⟩ => ⟨S8x1x8x1, .f32⟩
  | .hbm, ⟨36, _⟩ => ⟨S8x64x8x64, .f32⟩
  | .hbm, ⟨37, _⟩ => ⟨S8x64x8x64, .f32⟩
  | .hbm, ⟨38, _⟩ => ⟨S8x64x8x64, .f32⟩
  | .hbm, ⟨39, _⟩ => ⟨S512x512, .f32⟩
  | .hbm, ⟨40, _⟩ => ⟨S512x512, .bf16⟩
  | .hbm, ⟨41, _⟩ => ⟨S1x512, .f32⟩
  | .hbm, ⟨42, _⟩ => ⟨S1x512, .f32⟩
  | .hbm, ⟨43, _⟩ => ⟨S16384x512, .bf16⟩
  | .hbm, ⟨44, _⟩ => ⟨S8x3x512, .f32⟩
  | .hbm, ⟨45, _⟩ => ⟨S8x1x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x3x512, .f32⟩
  | .local _ .vmem, ⟨5, _⟩ => ⟨S1x3x512, .f32⟩
  | .local _ .vmem, ⟨6, _⟩ => ⟨S1x1x512, .f32⟩
  | .local _ .vmem, ⟨7, _⟩ => ⟨S1x1x512, .f32⟩
  | .local _ .vmem, ⟨8, _⟩ => ⟨S4x512, .f32⟩
  | .local _ .vmem, ⟨9, _⟩ => ⟨S1x512, .f32⟩
  | .local _ .vmem, ⟨10, _⟩ => ⟨S512x512, .bf16⟩
  | .local _ .vmem, ⟨11, _⟩ => ⟨S1x512, .f32⟩
  | .local _ .vmem, ⟨12, _⟩ => ⟨S512x512, .bf16⟩
  | .local _ .vmem, ⟨13, _⟩ => ⟨S1x512, .f32⟩
  | .local _ .vmem, ⟨14, _⟩ => ⟨S1x512, .f32⟩
  | .local _ .vmem, ⟨15, _⟩ => ⟨S2048x512, .bf16⟩
  | .local _ .vmem, ⟨16, _⟩ => ⟨S2048x512, .bf16⟩
  | .local _ .vmem, ⟨17, _⟩ => ⟨S1x3x512, .f32⟩
  | .local _ .vmem, ⟨18, _⟩ => ⟨S1x3x512, .f32⟩
  | .local _ .vmem, ⟨19, _⟩ => ⟨S1x1x512, .f32⟩
  | .local _ .vmem, ⟨20, _⟩ => ⟨S1x1x512, .f32⟩
  | .local _ .vmem, ⟨21, _⟩ => ⟨S2056x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v20 : BitVec 32 := Scalar.addi c0_i32 c8_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v25 : BitVec 32 := Scalar.muli arg16 c256_i32
  v25
def k0_off1 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32 : BitVec 32 := 256#32
  let v25 : BitVec 32 := Scalar.muli arg16 c256_i32
  let v26 : BitVec 32 := v25
  let v27 : Index := Scalar.indexCast v26
  let c0_19 : Index := 0#32
  ![v27.toNat, 0]
def k0_off2 (k0_t1 : Fin k0_t1_loop.trips) : Fin 2 → Nat :=
  let c0_i32 : BitVec 32 := 0#32
  let c1_i32 : BitVec 32 := 1#32
  let arg16 : BitVec 32 := Scf.iv c0_i32 c1_i32 k0_t1
  let c256_i32 : BitVec 32 := 256#32
  let v25 : BitVec 32 := Scalar.muli arg16 c256_i32
  let v26 : BitVec 32 := v25
  let v133 : Index := Scalar.indexCast v26
  let c0_59 : Index := 0#32
  ![v133.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x3x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x512 : Shape := ⟨2, ![16384, 512]⟩
abbrev S8x3x512 : Shape := ⟨3, ![8, 3, 512]⟩
abbrev S8x1x512 : Shape := ⟨3, ![8, 1, 512]⟩
abbrev S4x512 : Shape := ⟨2, ![4, 512]⟩
abbrev S512 : Shape := ⟨1, ![512]⟩
abbrev S8x64x64 : Shape := ⟨3, ![8, 64, 64]⟩
abbrev S8x2048x512 : Shape := ⟨3, ![8, 2048, 512]⟩
abbrev S8x2051x512 : Shape := ⟨3, ![8, 2051, 512]⟩
abbrev S1x512 : Shape := ⟨2, ![1, 512]⟩
abbrev S1x1x512 : Shape := ⟨3, ![1, 1, 512]⟩
abbrev S_ : Shape := ⟨0, ![]⟩
abbrev S8x2048x8x64 : Shape := ⟨4, ![8, 2048, 8, 64]⟩
abbrev S8x64x8x2048 : Shape := ⟨4, ![8, 64, 8, 2048]⟩
abbrev S8x512 : Shape := ⟨2, ![8, 512]⟩
abbrev S2048x8x512 : Shape := ⟨3, ![2048, 8, 512]⟩
abbrev S1x8x512 : Shape := ⟨3, ![1, 8, 512]⟩

abbrev nBuf : Space → Nat
  | .hbm => 159
  | .vmem => 0
  | .smem => 0
  | _ => 0

abbrev hbmTy0_0 (i : Nat) : BufTy := match i % 128 with
  | 0 => ⟨S16384x512, .f32⟩
  | 1 => ⟨S16384x512, .f32⟩
  | 2 => ⟨S8x3x512, .f32⟩
  | 3 => ⟨S8x1x512, .f32⟩
  | 4 => ⟨S4x512, .f32⟩
  | 5 => ⟨S512, .f32⟩
  | 6 => ⟨S8x64x64, .f32⟩
  | 7 => ⟨S512, .f32⟩
  | 8 => ⟨S8x64x64, .f32⟩
  | 9 => ⟨S512, .f32⟩
  | 10 => ⟨S512, .f32⟩
  | 11 => ⟨S8x2048x512, .f32⟩
  | 12 => ⟨S8x2051x512, .f32⟩
  | 13 => ⟨S8x2048x512, .f32⟩
  | 14 => ⟨S1x512, .f32⟩
  | 15 => ⟨S512, .f32⟩
  | 16 => ⟨S1x1x512, .f32⟩
  | 17 => ⟨S8x2048x512, .f32⟩
  | 18 => ⟨S8x2048x512, .f32⟩
  | 19 => ⟨S_, .f32⟩
  | 20 => ⟨S8x2048x512, .f32⟩
  | 21 => ⟨S8x2048x512, .f32⟩
  | 22 => ⟨S8x2048x512, .f32⟩
  | 23 => ⟨S1x512, .f32⟩
  | 24 => ⟨S512, .f32⟩
  | 25 => ⟨S1x1x512, .f32⟩
  | 26 => ⟨S8x2048x512, .f32⟩
  | 27 => ⟨S8x2048x512, .f32⟩
  | 28 => ⟨S8x2048x512, .f32⟩
  | 29 => ⟨S8x2048x512, .f32⟩
  | 30 => ⟨S1x512, .f32⟩
  | 31 => ⟨S512, .f32⟩
  | 32 => ⟨S1x1x512, .f32⟩
  | 33 => ⟨S8x2048x512, .f32⟩
  | 34 => ⟨S8x2048x512, .f32⟩
  | 35 => ⟨S8x2048x512, .f32⟩
  | 36 => ⟨S8x2048x512, .f32⟩
  | 37 => ⟨S1x512, .f32⟩
  | 38 => ⟨S512, .f32⟩
  | 39 => ⟨S1x1x512, .f32⟩
  | 40 => ⟨S8x2048x512, .f32⟩
  | 41 => ⟨S8x2048x512, .f32⟩
  | 42 => ⟨S8x2048x512, .f32⟩
  | 43 => ⟨S1x1x512, .f32⟩
  | 44 => ⟨S8x2048x512, .f32⟩
  | 45 => ⟨S8x2048x512, .f32⟩
  | 46 => ⟨S8x2048x8x64, .f32⟩
  | 47 => ⟨S8x64x8x2048, .f32⟩
  | 48 => ⟨S8x2048x8x64, .f32⟩
  | 49 => ⟨S8x2048x512, .f32⟩
  | 50 => ⟨S1x1x512, .f32⟩
  | 51 => ⟨S8x2048x512, .f32⟩
  | 52 => ⟨S8x2048x512, .f32⟩
  | 53 => ⟨S8x2048x512, .f32⟩
  | 54 => ⟨S8x2048x512, .f32⟩
  | 55 => ⟨S_, .f32⟩
  | 56 => ⟨S8x2048x512, .f32⟩
  | 57 => ⟨S8x2048x512, .f32⟩
  | 58 => ⟨S_, .f32⟩
  | 59 => ⟨S8x2048x512, .f32⟩
  | 60 => ⟨S8x2048x512, .f32⟩
  | 61 => ⟨S8x64x8x2048, .f32⟩
  | 62 => ⟨S8x2048x8x64, .f32⟩
  | 63 => ⟨S8x2048x512, .f32⟩
  | 64 => ⟨S1x1x512, .f32⟩
  | 65 => ⟨S8x2048x512, .f32⟩
  | 66 => ⟨S8x2048x512, .f32⟩
  | 67 => ⟨S8x2048x512, .f32⟩
  | 68 => ⟨S8x2048x512, .f32⟩
  | 69 => ⟨S_, .f32⟩
  | 70 => ⟨S8x2048x512, .f32⟩
  | 71 => ⟨S8x2048x512, .f32⟩
  | 72 => ⟨S_, .f32⟩
  | 73 => ⟨S8x2048x512, .f32⟩
  | 74 => ⟨S8x2048x512, .f32⟩
  | 75 => ⟨S_, .f32⟩
  | 76 => ⟨S8x2048x512, .f32⟩
  | 77 => ⟨S8x2048x512, .f32⟩
  | 78 => ⟨S512, .f32⟩
  | 79 => ⟨S_, .f32⟩
  | 80 => ⟨S512, .f32⟩
  | 81 => ⟨S512, .f32⟩
  | 82 => ⟨S512, .f32⟩
  | 83 => ⟨S512, .f32⟩
  | 84 => ⟨S512, .i1⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S1x1x512, .f32⟩
  | 94 => ⟨S8x2048x512, .f32⟩
  | 95 => ⟨S8x2048x512, .f32⟩
  | 96 => ⟨S8x2048x512, .f32⟩
  | 97 => ⟨S_, .f32⟩
  | 98 => ⟨S8x2048x512, .f32⟩
  | 99 => ⟨S8x2048x512, .f32⟩
  | 100 => ⟨S8x2048x512, .f32⟩
  | 101 => ⟨S8x2048x512, .f32⟩
  | 102 => ⟨S8x2048x512, .f32⟩
  | 103 => ⟨S8x2048x512, .f32⟩
  | 104 => ⟨S8x2048x512, .f32⟩
  | 105 => ⟨S8x512, .f32⟩
  | 106 => ⟨S2048x8x512, .f32⟩
  | 107 => ⟨S2048x8x512, .f32⟩
  | 108 => ⟨S_, .f32⟩
  | 109 => ⟨S2048x8x512, .f32⟩
  | 110 => ⟨S_, .i32⟩
  | 111 => ⟨S2048x8x512, .f32⟩
  | 112 => ⟨S2048x8x512, .f32⟩
  | 113 => ⟨S_, .i32⟩
  | 114 => ⟨S8x512, .f32⟩
  | 115 => ⟨S2048x8x512, .f32⟩
  | 116 => ⟨S_, .i32⟩
  | 117 => ⟨S_, .i1⟩
  | 118 => ⟨S_, .i32⟩
  | 119 => ⟨S_, .i32⟩
  | 120 => ⟨S1x8x512, .f32⟩
  | 121 => ⟨S8x512, .f32⟩
  | 122 => ⟨S_, .i32⟩
  | 123 => ⟨S_, .i32⟩
  | 124 => ⟨S1x8x512, .f32⟩
  | 125 => ⟨S8x512, .f32⟩
  | 126 => ⟨S8x512, .f32⟩
  | 127 => ⟨S8x512, .f32⟩
  | _ => ⟨S16384x512, .f32⟩

abbrev hbmTy0_1 (i : Nat) : BufTy := match i % 128 with
  | 0 => ⟨S1x8x512, .f32⟩
  | 1 => ⟨S_, .i32⟩
  | 2 => ⟨S_, .i32⟩
  | 3 => ⟨S2048x8x512, .f32⟩
  | 4 => ⟨S_, .i32⟩
  | 5 => ⟨S_, .i32⟩
  | 6 => ⟨S8x2048x512, .f32⟩
  | 7 => ⟨S16384x512, .f32⟩
  | 8 => ⟨S16384x512, .f32⟩
  | 9 => ⟨S16384x512, .f32⟩
  | 10 => ⟨S_, .f32⟩
  | 11 => ⟨S16384x512, .f32⟩
  | 12 => ⟨S16384x512, .f32⟩
  | 13 => ⟨S16384x512, .f32⟩
  | 14 => ⟨S_, .f32⟩
  | 15 => ⟨S16384x512, .f32⟩
  | 16 => ⟨S16384x512, .f32⟩
  | 17 => ⟨S16384x512, .f32⟩
  | 18 => ⟨S_, .f32⟩
  | 19 => ⟨S16384x512, .f32⟩
  | 20 => ⟨S16384x512, .f32⟩
  | 21 => ⟨S_, .f32⟩
  | 22 => ⟨S16384x512, .f32⟩
  | 23 => ⟨S16384x512, .f32⟩
  | 24 => ⟨S16384x512, .f32⟩
  | 25 => ⟨S16384x512, .f32⟩
  | 26 => ⟨S8x2048x512, .f32⟩
  | 27 => ⟨S8x2051x512, .f32⟩
  | 28 => ⟨S8x3x512, .f32⟩
  | 29 => ⟨S16384x512, .bf16⟩
  | 30 => ⟨S8x1x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_6 : Ref sig .tc := ⟨.hbm, 108, rfl⟩
abbrev main_v77 : Ref sig .tc := ⟨.hbm, 109, rfl⟩
abbrev main_c : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_while0c_c_15 : Ref sig .tc := ⟨.hbm, 116, rfl⟩
abbrev main_while0c_v100 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_v0 : Ref sig .tc := ⟨.hbm, 120, rfl⟩
abbrev main_while0b_v100 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_v0 : Ref sig .tc := ⟨.hbm, 124, rfl⟩
abbrev main_while0b_v101 : Ref sig .tc := ⟨.hbm, 125, rfl⟩
abbrev main_while0b_v102 : Ref sig .tc := ⟨.hbm, 126, rfl⟩
abbrev main_while0b_v103 : Ref sig .tc := ⟨.hbm, 127, rfl⟩
abbrev main_while0b_call3_v0 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_v104 : Ref sig .tc := ⟨.hbm, 131, rfl⟩
abbrev main_while0b_c_15 : Ref sig .tc := ⟨.hbm, 132, rfl⟩
abbrev main_while0b_v105 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_7 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_8 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_cst_9 : Ref sig .tc := ⟨.hbm, 146, rfl⟩
abbrev main_v89 : Ref sig .tc := ⟨.hbm, 147, rfl⟩
abbrev main_v90 : Ref sig .tc := ⟨.hbm, 148, rfl⟩
abbrev main_cst_10 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2x1024x2816, .bf16⟩
  | .hbm, ⟨7, _⟩ => ⟨S2x1024x2816, .bf16⟩
  | .hbm, ⟨8, _⟩ => ⟨S2x2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024x2816, .f32⟩
  | .hbm, ⟨23, _⟩ => ⟨S1024x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S1x1024x2816, .f32⟩
  | .hbm, ⟨35, _⟩ => ⟨S1024x2816, .f32⟩
  | .hbm, ⟨36, _⟩ => ⟨S16384x2816, .f32⟩
  | .hbm, ⟨37, _⟩ => ⟨S16384x2816, .f32⟩
  | .hbm, ⟨38, _⟩ => ⟨S1x2816x1024, .f32⟩
  | .hbm, ⟨39, _⟩ => ⟨S2816x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S2x1024x7168 : Shape := ⟨3, ![2, 1024, 7168]⟩
abbrev S1x1024 : Shape := ⟨2, ![1, 1024]⟩
abbrev S16384x512 : Shape := ⟨2, ![16384, 512]⟩
abbrev S16384x3072 : Shape := ⟨2, ![16384, 3072]⟩
abbrev S256x1024 : Shape := ⟨2, ![256, 1024]⟩
abbrev S1x1024x7168 : Shape := ⟨3, ![1, 1024, 7168]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩

abbrev nBuf : Space → Nat
  | .hbm => 14
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x7168, .f32⟩
  | .hbm, ⟨3, _⟩ => ⟨S1x1024, .f32⟩
  | .hbm, ⟨4, _⟩ => ⟨S2x1024x7168, .bf16⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x7168, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x3072, .bf16⟩
  | .local _ .vmem, ⟨21, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S1024 : Shape := ⟨1, ![1024]⟩
abbrev S2x1024x7168 : Shape := ⟨3, ![2, 1024, 7168]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x7168 : Shape := ⟨3, ![1, 1024, 7168]⟩
abbrev S1024x7168 : Shape := ⟨2, ![1024, 7168]⟩
abbrev S16384x7168 : Shape := ⟨2, ![16384, 7168]⟩
abbrev S16384x512 : Shape := ⟨2, ![16384, 512]⟩
abbrev S16384x3072 : Shape := ⟨2, ![16384, 3072]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x7168, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1x1024x7168, .f32⟩
  | .hbm, ⟨20, _⟩ => ⟨S1024x7168, .f32⟩
  | .hbm, ⟨21, _⟩ => ⟨S16384x7168, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x3072, .f32⟩
  | .hbm, ⟨31, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S16384x3072 : Shape := ⟨2, ![16384, 3072]⟩
abbrev S3x1024 : Shape := ⟨2, ![3, 1024]⟩
abbrev S2x3x512x1024 : Shape := ⟨4, ![2, 3, 512, 1024]⟩
abbrev S2x1024x1024 : Shape := ⟨3, ![2, 1024, 1024]⟩
abbrev S1x3072 : Shape := ⟨2, ![1, 3072]⟩
abbrev S512x1024 : Shape := ⟨2, ![512, 1024]⟩
abbrev S512x512 : Shape := ⟨2, ![512, 512]⟩
abbrev S512x3072 : Shape := ⟨2, ![512, 3072]⟩
abbrev S1x3x512x1024 : Shape := ⟨4, ![1, 3, 512, 1024]⟩
abbrev S1x1024x1024 : Shape := ⟨3, ![1, 1024, 1024]⟩
abbrev S1x1x512x1024 : Shape := ⟨4, ![1, 1, 512, 1024]⟩
abbrev S1x1024 : Shape := ⟨2, ![1, 1024]⟩
abbrev S1024x1024 : Shape := ⟨2, ![1024, 1024]⟩

abbrev nBuf : Space → Nat
  | .hbm => 12
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S3x1024, .f32⟩
  | .hbm, ⟨6, _⟩ => ⟨S2x3x512x1024, .f32⟩
  | .hbm, ⟨7, _⟩ => ⟨S2x1024x1024, .f32⟩
  | .hbm, ⟨8, _⟩ => ⟨S1x3072, .f32⟩
  | .hbm, ⟨9, _⟩ => ⟨S2x3x512x1024, .bf16⟩
  | .hbm, ⟨10, _⟩ => ⟨S2x1024x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S1x3072, .f32⟩
  | .local _ .vmem, ⟨11, _⟩ => ⟨S1x3x512x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S16384x512 : Shape := ⟨2, ![16384, 512]⟩
abbrev S16384x3072 : Shape := ⟨2, ![16384, 3072]⟩
abbrev S3x1024 : Shape := ⟨2, ![3, 1024]⟩
abbrev S2x3x512x1024 : Shape := ⟨4, ![2, 3, 512, 1024]⟩
abbrev S2x1024x1024 : Shape := ⟨3, ![2, 1024, 1024]⟩
abbrev S16384x1x512 : Shape := ⟨3, ![16384, 1, 512]⟩
abbrev S16384x3x512 : Shape := ⟨3, ![16384, 3, 512]⟩
abbrev S1x3x512x1024 : Shape := ⟨4, ![1, 3, 512, 1024]⟩
abbrev S3x512x1024 : Shape := ⟨3, ![3, 512, 1024]⟩
abbrev S3x1024x16384 : Shape := ⟨3, ![3, 1024, 16384]⟩
abbrev S16384x3x1024 : Shape := ⟨3, ![16384, 3, 1024]⟩
abbrev S1x3x1024 : Shape := ⟨3, ![1, 3, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x3072, .bf16⟩
  | .hbm, ⟨5, _⟩ => ⟨S3x1024, .f32⟩
  | .hbm, ⟨6, _⟩ => ⟨S2x3x512x1024, .f32⟩
  | .hbm, ⟨7, _⟩ => ⟨S2x1024x1024, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x1x512, .f32⟩
  | .hbm, ⟨12, _⟩ => ⟨S16384x1x512, .f32⟩
  | .hbm, ⟨13, _⟩ => ⟨S16384x1x512, .f32⟩
  | .hbm, ⟨14, _⟩ => ⟨S16384x3x512, .f32⟩
  | .hbm, ⟨15, _⟩ => ⟨S1x3x512x1024, .f32⟩
  | .hbm, ⟨16, _⟩ => ⟨S3x512x1024, .f32⟩
  | .hbm, ⟨17, _⟩ => ⟨S3x1024x16384, .f32⟩
  | .hbm, ⟨18, _⟩ => ⟨S16384x3x1024, .f32⟩
  | .hbm, ⟨19, _⟩ => ⟨S16384x3072, .f32⟩
  | .hbm, ⟨20, _⟩ => ⟨S16384x3x1024, .f32⟩
  | .hbm, ⟨21, _⟩ => ⟨S1x3x1024, .f32⟩
  | .hbm, ⟨22, _⟩ => ⟨S16384x3x1024, .f32⟩
  | .hbm, ⟨23, _⟩ => ⟨S16384x3x1024, .f32⟩
  | .hbm, ⟨24, _⟩ => ⟨S16384x3x1024, .f32⟩
  | .hbm, ⟨25, _⟩ => ⟨S16384x3x1024, .f32⟩
  | .hbm, ⟨26, _⟩ => ⟨S_, .f32⟩
  | .hbm, ⟨27, _⟩ => ⟨S16384x3x1024, .f32⟩
  | .hbm, ⟨28, _⟩ => ⟨S16384x3x1024, .f32⟩
  | .hbm, ⟨29, _⟩ => ⟨S_, .f32⟩
  | .hbm, ⟨30, _⟩ => ⟨S16384x3x1024, .f32⟩
  | .hbm, ⟨31, _⟩ => ⟨S16384x3x1024, .f32⟩
  | .hbm, ⟨32, _⟩ => ⟨S16384x3x1024, .f32⟩
  | .hbm, ⟨33, _⟩ => ⟨S_, .f32⟩
  | .hbm, ⟨34, _⟩ => ⟨S16384x1024, .f32⟩
  | .hbm, ⟨35, _⟩ => ⟨S1x1024x1024, .f32⟩
  | .hbm, ⟨36, _⟩ => ⟨S1024x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel5.lean ====
abbrev S16384x512 : Shape := ⟨2, ![16384, 512]⟩
abbrev S256x128 : Shape := ⟨2, ![256, 128]⟩
abbrev S2048x128 : Shape := ⟨2, ![2048, 128]⟩
abbrev S256x256 : Shape := ⟨2, ![256, 256]⟩
abbrev S256x1 : Shape := ⟨2, ![256, 1]⟩
abbrev S256 : Shape := ⟨1, ![256]⟩

abbrev nBuf : Space → Nat
  | .hbm => 4
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c256_i32 : BitVec 32 := 256#32
  let v9 : BitVec 32 := Scalar.muli arg2 c256_i32
  v9
def k0_off1 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v11 : Index := Scalar.indexCast v10
  let c0_2 : Index := 0#32
  ![v11.toNat, 0]
@[reducible] def k0_t1_loop (i : grid0.Coords) : Scf.Loop 32 :=
  let c0_i32 : BitVec 32 := 0#32
  let arg2 : BitVec 32 := BitVec.ofNat 32 (i 2).val
  let v103 : BitVec 32 := Scalar.subi arg2 c0_i32
  let c1_i32 : BitVec 32 := 1#32
  let v105 : BitVec 32 := Scalar.divsi v103 c1_i32
  let v106 : BitVec 32 := Scalar.muli v105 c1_i32
  let v107 : BitVec 32 := Scalar.addi c0_i32 v106
  let c1_i32_33 : BitVec 32 := 1#32
  ⟨c0_i32, v107, c1_i32_33⟩
def k0_mult2 (i : grid0.Coords) (k0_t1 : Fin (k0_t1_loop i).trips) : BitVec 32 :=
  let arg2 : BitVec 32 := BitVec.ofNat 32 (i 2).val
  let c1_i32_38 : BitVec 32 := 1#32
  let v114 : BitVec 32 := Scalar.subi arg2 c1_i32_38
  let c0_i32 : BitVec 32 := 0#32
  let c1_i32_33 : BitVec 32 := 1#32
  let arg7 : BitVec 32 := Scf.iv c0_i32 c1_i32_33 k0_t1
  let v115 : BitVec 32 := Scalar.subi v114 arg7
  let c256_i32_39 : BitVec 32 := 256#32
  let v116 : BitVec 32 := Scalar.muli v115 c256_i32_39
  v116
def k0_off2 (i : grid0.Coords) (k0_t1 : Fin (k0_t1_loop i).trips) : Fin 2 → Nat :=
  let arg2 : BitVec 32 := BitVec.ofNat 32 (i 2).val
  let c1_i32_38 : BitVec 32 := 1#32
  let v114 : BitVec 32 := Scalar.subi arg2 c1_i32_38
  let c0_i32 : BitVec 32 := 0#32
  let c1_i32_33 : BitVec 32 := 1#32
  let arg7 : BitVec 32 := Scf.iv c0_i32 c1_i32_33 k0_t1
  let v115 : BitVec 32 := Scalar.subi v114 arg7
  let c256_i32_39 : BitVec 32 := 256#32
  let v116 : BitVec 32 := Scalar.muli v115 c256_i32_39
  let v117 : BitVec 32 := v116
  let v118 : Index := Scalar.indexCast v117
  let c0_40 : Index := 0#32
  ![v118.toNat, 0]
@[reducible] def k0_t2_loop (i : grid0.Coords) : Scf.Loop 32 :=
  let c0_i32 : BitVec 32 := 0#32
  let arg2 : BitVec 32 := BitVec.ofNat 32 (i 2).val
  let v103 : BitVec 32 := Scalar.subi arg2 c0_i32
  let c1_i32 : BitVec 32 := 1#32
  let v105 : BitVec 32 := Scalar.divsi v103 c1_i32
  let v106 : BitVec 32 := Scalar.muli v105 c1_i32
  let v107 : BitVec 32 := Scalar.addi c0_i32 v106
  let v104 : BitVec 32 := Scalar.addi c0_i32 v103
  let c1_i32_34 : BitVec 32 := 1#32
  ⟨v107, v104, c1_i32_34⟩
def k0_mult3 (i : grid0.Coords) (k0_t2 : Fin (k0_t2_loop i).trips) : BitVec 32 :=
  let arg2 : BitVec 32 := BitVec.ofNat 32 (i 2).val
  let c1_i32_38 : BitVec 32 := 1#32
  let v114 : BitVec 32 := Scalar.subi arg2 c1_i32_38
  let c0_i32 : BitVec 32 := 0#32
  let v103 : BitVec 32 := Scalar.subi arg2 c0_i32
  let c1_i32 : BitVec 32 := 1#32
  let v105 : BitVec 32 := Scalar.divsi v103 c1_i32
  let v106 : BitVec 32 := Scalar.muli v105 c1_i32
  let v107 : BitVec 32 := Scalar.addi c0_i32 v106
  let c1_i32_34 : BitVec 32 := 1#32
  let arg7 : BitVec 32 := Scf.iv v107 c1_i32_34 k0_t2
  let v115 : BitVec 32 := Scalar.subi v114 arg7
  let c256_i32_39 : BitVec 32 := 256#32
  let v116 : BitVec 32 := Scalar.muli v115 c256_i32_39
  v116
def k0_off3 (i : grid0.Coords) (k0_t2 : Fin (k0_t2_loop i).trips) : Fin 2 → Nat :=
  let arg2 : BitVec 32 := BitVec.ofNat 32 (i 2).val
  let c1_i32_38 : BitVec 32 := 1#32
  let v114 : BitVec 32 := Scalar.subi arg2 c1_i32_38
  let c0_i32 : BitVec 32 := 0#32
  let v103 : BitVec 32 := Scalar.subi arg2 c0_i32
  let c1_i32 : BitVec 32 := 1#32
  let v105 : BitVec 32 := Scalar.divsi v103 c1_i32
  let v106 : BitVec 32 := Scalar.muli v105 c1_i32
  let v107 : BitVec 32 := Scalar.addi c0_i32 v106
  let c1_i32_34 : BitVec 32 := 1#32
  let arg7 : BitVec 32 := Scf.iv v107 c1_i32_34 k0_t2
  let v115 : BitVec 32 := Scalar.subi v114 arg7
  let c256_i32_39 : BitVec 32 := 256#32
  let v116 : BitVec 32 := Scalar.muli v115 c256_i32_39
  let v117 : BitVec 32 := v116
  let v118 : Index := Scalar.indexCast v117
  let c0_40 : Index := 0#32
  ![v118.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S16384x512 : Shape := ⟨2, ![16384, 512]⟩
abbrev S8x2048x8x64 : Shape := ⟨4, ![8, 2048, 8, 64]⟩
abbrev S8x8x2048x2048 : Shape := ⟨4, ![8, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x8x64x2048 : Shape := ⟨4, ![8, 8, 64, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S8x2048x8x64, .f32⟩
  | .hbm, ⟨4, _⟩ => ⟨S8x2048x8x64, .f32⟩
  | .hbm, ⟨5, _⟩ => ⟨S8x2048x8x64, .f32⟩
  | .hbm, ⟨6, _⟩ => ⟨S8x8x2048x2048, .f32⟩
  | .hbm, ⟨7, _⟩ => ⟨S_, .f32⟩
  | .hbm, ⟨8, _⟩ => ⟨S8x8x2048x2048, .f32⟩
  | .hbm, ⟨9, _⟩ => ⟨S8x8x2048x2048, .f32⟩
  | .hbm, ⟨10, _⟩ => ⟨S2048, .i32⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S1x1x2048x2048, .i1⟩
  | .hbm, ⟨17, _⟩ => ⟨S8x8x2048x2048, .f32⟩
  | .hbm, ⟨18, _⟩ => ⟨S8x8x2048x2048, .f32⟩
  | .hbm, ⟨19, _⟩ => ⟨S_, .f32⟩
  | .hbm, ⟨20, _⟩ => ⟨S8x8x2048x2048, .f32⟩
  | .hbm, ⟨21, _⟩ => ⟨S8x8x2048x2048, .f32⟩
  | .hbm, ⟨22, _⟩ => ⟨S8x8x2048x2048, .f32⟩
  | .hbm, ⟨23, _⟩ => ⟨S8x8x2048x2048, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S8x8x2048x2048, .f32⟩
  | .hbm, ⟨28, _⟩ => ⟨S8x8x2048x2048, .f32⟩
  | .hbm, ⟨29, _⟩ => ⟨S8x8x2048x2048, .f32⟩
  | .hbm, ⟨30, _⟩ => ⟨S8x8x2048x2048, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S_, .f32⟩
  | .hbm, ⟨36, _⟩ => ⟨S8x8x2048x2048, .i1⟩
  | .hbm, ⟨37, _⟩ => ⟨S8x8x2048x2048, .f32⟩
  | .hbm, ⟨38, _⟩ => ⟨S8x8x2048x2048, .f32⟩
  | .hbm, ⟨39, _⟩ => ⟨S_, .f32⟩
  | .hbm, ⟨40, _⟩ => ⟨S_, .f32⟩
  | .hbm, ⟨41, _⟩ => ⟨S8x8x2048x2048, .f32⟩
  | .hbm, ⟨42, _⟩ => ⟨S8x8x2048x2048, .f32⟩
  | .hbm, ⟨43, _⟩ => ⟨S8x8x2048x2048, .f32⟩
  | .hbm, ⟨44, _⟩ => ⟨S_, .f32⟩
  | .hbm, ⟨45, _⟩ => ⟨S8x8x2048x2048, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S8x8x2048x2048, .i1⟩
  | .hbm, ⟨50, _⟩ => ⟨S8x8x2048x2048, .f32⟩
  | .hbm, ⟨51, _⟩ => ⟨S8x8x2048x2048, .f32⟩
  | .hbm, ⟨52, _⟩ => ⟨S8x8x2048x2048, .f32⟩
  | .hbm, ⟨53, _⟩ => ⟨S8x8x2048x2048, .f32⟩
  | .hbm, ⟨54, _⟩ => ⟨S8x8x2048x2048, .f32⟩
  | .hbm, ⟨55, _⟩ => ⟨S8x8x2048x2048, .f32⟩
  | .hbm, ⟨56, _⟩ => ⟨S8x8x2048x2048, .f32⟩
  | .hbm, ⟨57, _⟩ => ⟨S8x8x2048x2048, .f32⟩
  | .hbm, ⟨58, _⟩ => ⟨S8x8x2048x2048, .f32⟩
  | .hbm, ⟨59, _⟩ => ⟨S8x8x2048x2048, .f32⟩
  | .hbm, ⟨60, _⟩ => ⟨S8x8x2048x2048, .f32⟩
  | .hbm, ⟨61, _⟩ => ⟨S_, .f32⟩
  | .hbm, ⟨62, _⟩ => ⟨S_, .f32⟩
  | .hbm, ⟨63, _⟩ => ⟨S8x8x2048x2048, .i1⟩
  | .hbm, ⟨64, _⟩ => ⟨S8x8x2048x2048, .f32⟩
  | .hbm, ⟨65, _⟩ => ⟨S8x8x2048x2048, .f32⟩
  | .hbm, ⟨66, _⟩ => ⟨S8x8x64x2048, .f32⟩
  | .hbm, ⟨67, _⟩ => ⟨S8x2048x8x64, .f32⟩
  | .hbm, ⟨68, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_cst : Ref sig .tc := ⟨.hbm, 39, rfl⟩
abbrev main_call2_v0 : Ref sig .tc := ⟨.hbm, 40, rfl⟩
abbrev main_v16 : Ref sig .tc := ⟨.hbm, 41, rfl⟩
abbrev main_v17 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩

abbrev nD : Nat := 1
abbrev τ : Topo := Topo.v7x

variable {F : FTy → Type} [FloatOps F]
-- ==== Kernel6.lean ====
abbrev S32x512 : Shape := ⟨2, ![32, 512]⟩
abbrev S32x3x512 : Shape := ⟨3, ![32, 3, 512]⟩
abbrev S4x512 : Shape := ⟨2, ![4, 512]⟩
abbrev S512 : Shape := ⟨1, ![512]⟩
abbrev S8x64x64 : Shape := ⟨3, ![8, 64, 64]⟩
abbrev S1x512 : Shape := ⟨2, ![1, 512]⟩
abbrev S8x8 : Shape := ⟨2, ![8, 8]⟩
abbrev S_ : Shape := ⟨0, ![]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S3x32x512 : Shape := ⟨3, ![3, 32, 512]⟩
abbrev S1x32x512 : Shape := ⟨3, ![1, 32, 512]⟩

abbrev nBuf : Space → Nat
  | .hbm => 47
  | .vmem => 14
  | .smem => 0
  | _ => 0

abbrev bufTy : (tb : Table) → Fin (tcTables nBuf tb) → BufTy
  | .hbm, ⟨0, _⟩ => ⟨S32x512, .f32⟩
  | .hbm, ⟨1, _⟩ => ⟨S32x512, .f32⟩
  | .hbm, ⟨2, _⟩ => ⟨S32x3x512, .f32⟩
  | .hbm, ⟨3, _⟩ => ⟨S32x512, .f32⟩
  | .hbm, ⟨4, _⟩ => ⟨S4x512, .f32⟩
  | .hbm, ⟨5, _⟩ => ⟨S512, .f32⟩
  | .hbm, ⟨6, _⟩ => ⟨S8x64x64, .f32⟩
  | .hbm, ⟨7, _⟩ => ⟨S512, .f32⟩
  | .hbm, ⟨8, _⟩ => ⟨S8x64x64, .f32⟩
  | .hbm, ⟨9, _⟩ => ⟨S512, .f32⟩
  | .hbm, ⟨10, _⟩ => ⟨S512, .f32⟩
  | .hbm, ⟨11, _⟩ => ⟨S1x512, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S8x64x1x64, .f32⟩
  | .hbm, ⟨20, _⟩ => ⟨S8x1x8x1, .f32⟩
  | .hbm, ⟨21, _⟩ => ⟨S8x64x8x64, .f32⟩
  | .hbm, ⟨22, _⟩ => ⟨S8x64x8x64, .f32⟩
  | .hbm, ⟨23, _⟩ => ⟨S8x64x8x64, .f32⟩
  | .hbm, ⟨24, _⟩ => ⟨S512x512, .f32⟩
  | .hbm, ⟨25, _⟩ => ⟨S512x512, .bf16⟩
  | .hbm, ⟨26, _⟩ => ⟨S1x512, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S8x64x1x64, .f32⟩
  | .hbm, ⟨35, _⟩ => ⟨S8x1x8x1, .f32⟩
  | .hbm, ⟨36, _⟩ => ⟨S8x64x8x64, .f32⟩
  | .hbm, ⟨37, _⟩ => ⟨S8x64x8x64, .f32⟩
  | .hbm, ⟨38, _⟩ => ⟨S8x64x8x64, .f32⟩
  | .hbm, ⟨39, _⟩ => ⟨S512x512, .f32⟩
  | .hbm, ⟨40, _⟩ => ⟨S512x512, .bf16⟩
  | .hbm, ⟨41, _⟩ => ⟨S1x512, .f32⟩
  | .hbm, ⟨42, _⟩ => ⟨S1x512, .f32⟩
  | .hbm, ⟨43, _⟩ => ⟨S3x32x512, .f32⟩
  | .hbm, ⟨44, _⟩ => ⟨S32x512, .f32⟩
  | .hbm, ⟨45, _⟩ => ⟨S3x32x512, .f32⟩
  | .hbm, ⟨46, _⟩ => ⟨S32x512, .f32⟩
  | .local _ .vmem, ⟨0, _⟩ => ⟨S32x512, .f32⟩
  | .local _ .vmem, ⟨1, _⟩ => ⟨S32x512, .f32⟩
  | .local _ .vmem, ⟨2, _⟩ => ⟨S3x32x512, .f32⟩
  | .local _ .vmem, ⟨3, _⟩ => ⟨S32x512, .f32⟩
  | .local _ .vmem, ⟨4, _⟩ => ⟨S4x512, .f32⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S32x512, .f32⟩
  | .local _ .vmem, ⟨12, _⟩ => ⟨S3x32x512, .f32⟩
  | .local _ .vmem, ⟨13, _⟩ => ⟨S32x512, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v31_2 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x32x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference6Ideal.lean ====
abbrev S32x512 : Shape := ⟨2, ![32, 512]⟩
abbrev S32x3x512 : Shape := ⟨3, ![32, 3, 512]⟩
abbrev S4x512 : Shape := ⟨2, ![4, 512]⟩
abbrev S512 : Shape := ⟨1, ![512]⟩
abbrev S8x64x64 : Shape := ⟨3, ![8, 64, 64]⟩
abbrev S32x1x512 : Shape := ⟨3, ![32, 1, 512]⟩
abbrev S32x4x512 : Shape := ⟨3, ![32, 4, 512]⟩
abbrev S1x512 : Shape := ⟨2, ![1, 512]⟩
abbrev S1x1x512 : Shape := ⟨3, ![1, 1, 512]⟩
abbrev S_ : Shape := ⟨0, ![]⟩
abbrev S32x1x8x64 : Shape := ⟨4, ![32, 1, 8, 64]⟩
abbrev S8x64x32x1 : Shape := ⟨4, ![8, 64, 32, 1]⟩
abbrev S3x32x512 : Shape := ⟨3, ![3, 32, 512]⟩

abbrev nBuf : Space → Nat
  | .hbm => 129
  | .vmem => 0
  | .smem => 0
  | _ => 0

abbrev hbmTy0_0 (i : Nat) : BufTy := match i % 128 with
  | 0 => ⟨S32x512, .f32⟩
  | 1 => ⟨S32x512, .f32⟩
  | 2 => ⟨S32x3x512, .f32⟩
  | 3 => ⟨S32x512, .f32⟩
  | 4 => ⟨S4x512, .f32⟩
  | 5 => ⟨S512, .f32⟩
  | 6 => ⟨S8x64x64, .f32⟩
  | 7 => ⟨S512, .f32⟩
  | 8 => ⟨S8x64x64, .f32⟩
  | 9 => ⟨S512, .f32⟩
  | 10 => ⟨S512, .f32⟩
  | 11 => ⟨S32x1x512, .f32⟩
  | 12 => ⟨S32x4x512, .f32⟩
  | 13 => ⟨S32x1x512, .f32⟩
  | 14 => ⟨S1x512, .f32⟩
  | 15 => ⟨S512, .f32⟩
  | 16 => ⟨S1x1x512, .f32⟩
  | 17 => ⟨S32x1x512, .f32⟩
  | 18 => ⟨S32x1x512, .f32⟩
  | 19 => ⟨S_, .f32⟩
  | 20 => ⟨S32x1x512, .f32⟩
  | 21 => ⟨S32x1x512, .f32⟩
  | 22 => ⟨S32x1x512, .f32⟩
  | 23 => ⟨S1x512, .f32⟩
  | 24 => ⟨S512, .f32⟩
  | 25 => ⟨S1x1x512, .f32⟩
  | 26 => ⟨S32x1x512, .f32⟩
  | 27 => ⟨S32x1x512, .f32⟩
  | 28 => ⟨S32x1x512, .f32⟩
  | 29 => ⟨S32x1x512, .f32⟩
  | 30 => ⟨S1x512, .f32⟩
  | 31 => ⟨S512, .f32⟩
  | 32 => ⟨S1x1x512, .f32⟩
  | 33 => ⟨S32x1x512, .f32⟩
  | 34 => ⟨S32x1x512, .f32⟩
  | 35 => ⟨S32x1x512, .f32⟩
  | 36 => ⟨S32x1x512, .f32⟩
  | 37 => ⟨S1x512, .f32⟩
  | 38 => ⟨S512, .f32⟩
  | 39 => ⟨S1x1x512, .f32⟩
  | 40 => ⟨S32x1x512, .f32⟩
  | 41 => ⟨S32x1x512, .f32⟩
  | 42 => ⟨S32x1x512, .f32⟩
  | 43 => ⟨S1x1x512, .f32⟩
  | 44 => ⟨S32x1x512, .f32⟩
  | 45 => ⟨S32x1x512, .f32⟩
  | 46 => ⟨S32x1x8x64, .f32⟩
  | 47 => ⟨S8x64x32x1, .f32⟩
  | 48 => ⟨S32x1x8x64, .f32⟩
  | 49 => ⟨S32x1x512, .f32⟩
  | 50 => ⟨S1x1x512, .f32⟩
  | 51 => ⟨S32x1x512, .f32⟩
  | 52 => ⟨S32x1x512, .f32⟩
  | 53 => ⟨S32x1x512, .f32⟩
  | 54 => ⟨S32x1x512, .f32⟩
  | 55 => ⟨S_, .f32⟩
  | 56 => ⟨S32x1x512, .f32⟩
  | 57 => ⟨S32x1x512, .f32⟩
  | 58 => ⟨S_, .f32⟩
  | 59 => ⟨S32x1x512, .f32⟩
  | 60 => ⟨S32x1x512, .f32⟩
  | 61 => ⟨S8x64x32x1, .f32⟩
  | 62 => ⟨S32x1x8x64, .f32⟩
  | 63 => ⟨S32x1x512, .f32⟩
  | 64 => ⟨S1x1x512, .f32⟩
  | 65 => ⟨S32x1x512, .f32⟩
  | 66 => ⟨S32x1x512, .f32⟩
  | 67 => ⟨S32x1x512, .f32⟩
  | 68 => ⟨S32x1x512, .f32⟩
  | 69 => ⟨S_, .f32⟩
  | 70 => ⟨S32x1x512, .f32⟩
  | 71 => ⟨S32x1x512, .f32⟩
  | 72 => ⟨S_, .f32⟩
  | 73 => ⟨S32x1x512, .f32⟩
  | 74 => ⟨S32x1x512, .f32⟩
  | 75 => ⟨S_, .f32⟩
  | 76 => ⟨S32x1x512, .f32⟩
  | 77 => ⟨S32x1x512, .f32⟩
  | 78 => ⟨S512, .f32⟩
  | 79 => ⟨S_, .f32⟩
  | 80 => ⟨S512, .f32⟩
  | 81 => ⟨S512, .f32⟩
  | 82 => ⟨S512, .f32⟩
  | 83 => ⟨S512, .f32⟩
  | 84 => ⟨S512, .i1⟩
  | 85 => ⟨S512, .f32⟩
  | 86 => ⟨S512, .f32⟩
  | 87 => ⟨S512, .f32⟩
  | 88 => ⟨S512, .f32⟩
  | 89 => ⟨S512, .f32⟩
  | 90 => ⟨S512, .f32⟩
  | 91 => ⟨S512, .f32⟩
  | 92 => ⟨S512, .f32⟩
  | 93 => ⟨S1x1x512, .f32⟩
  | 94 => ⟨S32x1x512, .f32⟩
  | 95 => ⟨S32x1x512, .f32⟩
  | 96 => ⟨S32x1x512, .f32⟩
  | 97 => ⟨S_, .f32⟩
  | 98 => ⟨S32x1x512, .f32⟩
  | 99 => ⟨S32x1x512, .f32⟩
  | 100 => ⟨S32x1x512, .f32⟩
  | 101 => ⟨S32x1x512, .f32⟩
  | 102 => ⟨S32x1x512, .f32⟩
  | 103 => ⟨S32x1x512, .f32⟩
  | 104 => ⟨S32x1x512, .f32⟩
  | 105 => ⟨S32x1x512, .f32⟩
  | 106 => ⟨S32x1x512, .f32⟩
  | 107 => ⟨S32x1x512, .f32⟩
  | 108 => ⟨S32x512, .f32⟩
  | 109 => ⟨S32x512, .f32⟩
  | 110 => ⟨S32x512, .f32⟩
  | 111 => ⟨S_, .f32⟩
  | 112 => ⟨S32x512, .f32⟩
  | 113 => ⟨S32x512, .f32⟩
  | 114 => ⟨S32x512, .f32⟩
  | 115 => ⟨S_, .f32⟩
  | 116 => ⟨S32x512, .f32⟩
  | 117 => ⟨S32x512, .f32⟩
  | 118 => ⟨S32x512, .f32⟩
  | 119 => ⟨S_, .f32⟩
  | 120 => ⟨S32x512, .f32⟩
  | 121 => ⟨S32x512, .f32⟩
  | 122 => ⟨S_, .f32⟩
  | 123 => ⟨S32x512, .f32⟩
  | 124 => ⟨S32x512, .f32⟩
  | 125 => ⟨S32x512, .f32⟩
  | 126 => ⟨S32x512, .f32⟩
  | 127 => ⟨S32x3x512, .f32⟩
  | _ => ⟨S32x512, .f32⟩

abbrev hbmTy0_1 (i : Nat) : BufTy := match i % 128 with
  | 0 => ⟨S3x32x512, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_0 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_6 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_7 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_8 : Ref sig .tc := ⟨.hbm, 119, rfl⟩
abbrev main_v86 : Ref sig .tc := ⟨.hbm, 120, rfl⟩
abbrev main_v87 : Ref sig .tc := ⟨.hbm, 121, rfl⟩
abbrev main_cst_9 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2x1024x2816, .bf16⟩
  | .hbm, ⟨7, _⟩ => ⟨S2x1024x2816, .bf16⟩
  | .hbm, ⟨8, _⟩ => ⟨S2x2816x1024, .bf16⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16384x1024 : Shape := ⟨2, ![16384, 1024]⟩
abbrev S1024 : Shape := ⟨1, ![1024]⟩
abbrev S2x1024x2816 : Shape := ⟨3, ![2, 1024, 2816]⟩
abbrev S2x2816x1024 : Shape := ⟨3, ![2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1x1024x2816, .f32⟩
  | .hbm, ⟨23, _⟩ => ⟨S1024x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S1x1024x2816, .f32⟩
  | .hbm, ⟨35, _⟩ => ⟨S1024x2816, .f32⟩
  | .hbm, ⟨36, _⟩ => ⟨S16384x2816, .f32⟩
  | .hbm, ⟨37, _⟩ => ⟨S16384x2816, .f32⟩
  | .hbm, ⟨38, _⟩ => ⟨S1x2816x1024, .f32⟩
  | .hbm, ⟨39, _⟩ => ⟨S2816x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel8.lean ====
abbrev S32x8 : Shape := ⟨2, ![32, 8]⟩
abbrev S8x2x256x256 : Shape := ⟨4, ![8, 2, 256, 256]⟩
abbrev S8x2x8x128 : Shape := ⟨4, ![8, 2, 8, 128]⟩
abbrev S1x2x256x256 : Shape := ⟨4, ![1, 2, 256, 256]⟩
abbrev S1x2x8x128 : Shape := ⟨4, ![1, 2, 8, 128]⟩
abbrev S256x256 : Shape := ⟨2, ![256, 256]⟩
abbrev S1x1 : Shape := ⟨2, ![1, 1]⟩
abbrev S1x1x256x256 : Shape := ⟨4, ![1, 1, 256, 256]⟩
abbrev S8x128 : Shape := ⟨2, ![8, 128]⟩
abbrev S1x1x8x128 : Shape := ⟨4, ![1, 1, 8, 128]⟩

abbrev nBuf : Space → Nat
  | .hbm => 3
  | .vmem => 4
  | .smem => 1
  | _ => 0

abbrev bufTy : (tb : Table) → Fin (tcTables nBuf tb) → BufTy
  | .hbm, ⟨0, _⟩ => ⟨S32x8, .f32⟩
  | .hbm, ⟨1, _⟩ => ⟨S8x2x256x256, .f32⟩
  | .hbm, ⟨2, _⟩ => ⟨S8x2x8x128, .f32⟩
  | .local _ .vmem, ⟨0, _⟩ => ⟨S1x2x256x256, .f32⟩
  | .local _ .vmem, ⟨1, _⟩ => ⟨S1x2x256x256, .f32⟩
  | .local _ .vmem, ⟨2, _⟩ => ⟨S1x2x8x128, .f32⟩
  | .local _ .vmem, ⟨3, _⟩ => ⟨S1x2x8x128, .f32⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let c0 : Index := 0#32
  let arg0 : BitVec 32 := BitVec.ofNat 32 (i 0).val
  let v26 : Index := Scalar.indexCast arg0
  ![0, v26.toNat]
def k0_off2 (i : grid0.Coords) : Fin 2 → Nat :=
  let c1 : Index := 1#32
  let arg0 : BitVec 32 := BitVec.ofNat 32 (i 0).val
  let v32 : Index := Scalar.indexCast arg0
  ![1, v32.toNat]
def k0_off3 (i : grid0.Coords) : Fin 2 → Nat :=
  let c2 : Index := 2#32
  let arg0 : BitVec 32 := BitVec.ofNat 32 (i 0).val
  let v38 : Index := Scalar.indexCast arg0
  ![2, v38.toNat]
def k0_off4 (i : grid0.Coords) : Fin 2 → Nat :=
  let c3 : Index := 3#32
  let arg0 : BitVec 32 := BitVec.ofNat 32 (i 0).val
  let v44 : Index := Scalar.indexCast arg0
  ![3, v44.toNat]
def k0_off5 (i : grid0.Coords) : Fin 2 → Nat :=
  let c4 : Index := 4#32
  let arg0 : BitVec 32 := BitVec.ofNat 32 (i 0).val
  let v50 : Index := Scalar.indexCast arg0
  ![4, v50.toNat]
def k0_off6 (i : grid0.Coords) : Fin 2 → Nat :=
  let c5 : Index := 5#32
  let arg0 : BitVec 32 := BitVec.ofNat 32 (i 0).val
  let v56 : Index := Scalar.indexCast arg0
  ![5, v56.toNat]
def k0_off7 (i : grid0.Coords) : Fin 2 → Nat :=
  let c6 : Index := 6#32
  let arg0 : BitVec 32 := BitVec.ofNat 32 (i 0).val
  let v62 : Index := Scalar.indexCast arg0
  ![6, v62.toNat]
def k0_off8 (i : grid0.Coords) : Fin 2 → Nat :=
  let c7 : Index := 7#32
  let arg0 : BitVec 32 := BitVec.ofNat 32 (i 0).val
  let v68 : Index := Scalar.indexCast arg0
  ![7, v68.toNat]
def k0_off9 (i : grid0.Coords) : Fin 2 → Nat :=
  let c8 : Index := 8#32
  let arg0 : BitVec 32 := BitVec.ofNat 32 (i 0).val
  let v74 : Index := Scalar.indexCast arg0
  ![8, v74.toNat]
def k0_off10 (i : grid0.Coords) : Fin 2 → Nat :=
  let c9 : Index := 9#32
  let arg0 : BitVec 32 := BitVec.ofNat 32 (i 0).val
  let v80 : Index := Scalar.indexCast arg0
  ![9, v80.toNat]
def k0_off11 (i : grid0.Coords) : Fin 2 → Nat :=
  let c10 : Index := 10#32
  let arg0 : BitVec 32 := BitVec.ofNat 32 (i 0).val
  let v86 : Index := Scalar.indexCast arg0
  ![10, v86.toNat]
def k0_off12 (i : grid0.Coords) : Fin 2 → Nat :=
  let c11 : Index := 11#32
  let arg0 : BitVec 32 := BitVec.ofNat 32 (i 0).val
  let v92 : Index := Scalar.indexCast arg0
  ![11, v92.toNat]
def k0_off13 (i : grid0.Coords) : Fin 2 → Nat :=
  let c12 : Index := 12#32
  let arg0 : BitVec 32 := BitVec.ofNat 32 (i 0).val
  let v98 : Index := Scalar.indexCast arg0
  ![12, v98.toNat]
def k0_off14 (i : grid0.Coords) : Fin 2 → Nat :=
  let c13 : Index := 13#32
  let arg0 : BitVec 32 := BitVec.ofNat 32 (i 0).val
  let v104 : Index := Scalar.indexCast arg0
  ![13, v104.toNat]
def k0_off15 (i : grid0.Coords) : Fin 2 → Nat :=
  let c14 : Index := 14#32
  let arg0 : BitVec 32 := BitVec.ofNat 32 (i 0).val
  let v110 : Index := Scalar.indexCast arg0
  ![14, v110.toNat]
def k0_off16 (i : grid0.Coords) : Fin 2 → Nat :=
  let c15 : Index := 15#32
  let arg0 : BitVec 32 := BitVec.ofNat 32 (i 0).val
  let v116 : Index := Scalar.indexCast arg0
  ![15, v116.toNat]
def k0_off17 (i : grid0.Coords) : Fin 2 → Nat :=
  let c16 : Index := 16#32
  let arg0 : BitVec 32 := BitVec.ofNat 32 (i 0).val
  let v122 : Index := Scalar.indexCast arg0
  ![16, v122.toNat]
def k0_off18 (i : grid0.Coords) : Fin 2 → Nat :=
  let c17 : Index := 17#32
  let arg0 : BitVec 32 := BitVec.ofNat 32 (i 0).val
  let v128 : Index := Scalar.indexCast arg0
  ![17, v128.toNat]
def k0_off19 (i : grid0.Coords) : Fin 2 → Nat :=
  let c18 : Index := 18#32
  let arg0 : BitVec 32 := BitVec.ofNat 32 (i 0).val
  let v134 : Index := Scalar.indexCast arg0
  ![18, v134.toNat]
def k0_off20 (i : grid0.Coords) : Fin 2 → Nat :=
  let c19 : Index := 19#32
  let arg0 : BitVec 32 := BitVec.ofNat 32 (i 0).val
  let v140 : Index := Scalar.indexCast arg0
  ![19, v140.toNat]
def k0_off21 (i : grid0.Coords) : Fin 2 → Nat :=
  let c20 : Index := 20#32
  let arg0 : BitVec 32 := BitVec.ofNat 32 (i 0).val
  let v146 : Index := Scalar.indexCast arg0
  ![20, v146.toNat]
def k0_off22 (i : grid0.Coords) : Fin 2 → Nat :=
  let c21 : Index := 21#32
  let arg0 : BitVec 32 := BitVec.ofNat 32 (i 0).val
  let v152 : Index := Scalar.indexCast arg0
  ![21, v152.toNat]
def k0_off23 (i : grid0.Coords) : Fin 2 → Nat :=
  let c22 : Index := 22#32
  let arg0 : BitVec 32 := BitVec.ofNat 32 (i 0).val
  let v158 : Index := Scalar.indexCast arg0
  ![22, v158.toNat]
def k0_off24 (i : grid0.Coords) : Fin 2 → Nat :=
  let c23 : Index := 23#32
  let arg0 : BitVec 32 := BitVec.ofNat 32 (i 0).val
  let v164 : Index := Scalar.indexCast arg0
  ![23, v164.toNat]
def k0_off25 (i : grid0.Coords) : Fin 2 → Nat :=
  let c24 : Index := 24#32
  let arg0 : BitVec 32 := BitVec.ofNat 32 (i 0).val
  let v170 : Index := Scalar.indexCast arg0
  ![24, v170.toNat]
def k0_off26 (i : grid0.Coords) : Fin 2 → Nat :=
  let c25 : Index := 25#32
  let arg0 : BitVec 32 := BitVec.ofNat 32 (i 0).val
  let v176 : Index := Scalar.indexCast arg0
  ![25, v176.toNat]
def k0_off27 (i : grid0.Coords) : Fin 2 → Nat :=
  let c26 : Index := 26#32
  let arg0 : BitVec 32 := BitVec.ofNat 32 (i 0).val
  let v182 : Index := Scalar.indexCast arg0
  ![26, v182.toNat]
def k0_off28 (i : grid0.Coords) : Fin 2 → Nat :=
  let c27 : Index := 27#32
  let arg0 : BitVec 32 := BitVec.ofNat 32 (i 0).val
  let v188 : Index := Scalar.indexCast arg0
  ![27, v188.toNat]
def k0_off29 (i : grid0.Coords) : Fin 2 → Nat :=
  let c28 : Index := 28#32
  let arg0 : BitVec 32 := BitVec.ofNat 32 (i 0).val
  let v194 : Index := Scalar.indexCast arg0
  ![28, v194.toNat]
def k0_off30 (i : grid0.Coords) : Fin 2 → Nat :=
  let c29 : Index := 29#32
  let arg0 : BitVec 32 := BitVec.ofNat 32 (i 0).val
  let v200 : Index := Scalar.indexCast arg0
  ![29, v200.toNat]
def k0_off31 (i : grid0.Coords) : Fin 2 → Nat :=
  let c30 : Index := 30#32
  let arg0 : BitVec 32 := BitVec.ofNat 32 (i 0).val
  let v206 : Index := Scalar.indexCast arg0
  ![30, v206.toNat]
def k0_off32 (i : grid0.Coords) : Fin 2 → Nat :=
  let c31 : Index := 31#32
  let arg0 : BitVec 32 := BitVec.ofNat 32 (i 0).val
  let v212 : Index := Scalar.indexCast arg0
  ![31, v212.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S32x8 : Shape := ⟨2, ![32, 8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x256x256 : Shape := ⟨3, ![1, 256, 256]⟩
abbrev S2x256x256 : Shape := ⟨3, ![2, 256, 256]⟩
abbrev S2x256x256x1 : Shape := ⟨4, ![2, 256, 256, 1]⟩
abbrev S1x1x1x32 : Shape := ⟨4, ![1, 1, 1, 32]⟩
abbrev S2x256x256x32 : Shape := ⟨4, ![2, 256, 256, 32]⟩
abbrev S2x256x256x8 : Shape := ⟨4, ![2, 256, 256, 8]⟩
abbrev S8x2x256x256 : Shape := ⟨4, ![8, 2, 256, 256]⟩
abbrev S2x1x128 : Shape := ⟨3, ![2, 1, 128]⟩
abbrev S2x8x128 : Shape := ⟨3, ![2, 8, 128]⟩
abbrev S2x8x128x1 : Shape := ⟨4, ![2, 8, 128, 1]⟩
abbrev S2x8x128x32 : Shape := ⟨4, ![2, 8, 128, 32]⟩
abbrev S2x8x128x8 : Shape := ⟨4, ![2, 8, 128, 8]⟩
abbrev S8x2x8x128 : Shape := ⟨4, ![8, 2, 8, 128]⟩

abbrev nBuf : Space → Nat
  | .hbm => 90
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S256, .i32⟩
  | .hbm, ⟨2, _⟩ => ⟨S256x1, .i32⟩
  | .hbm, ⟨3, _⟩ => ⟨S1x256, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S_, .i32⟩
  | .hbm, ⟨8, _⟩ => ⟨S256x256, .i32⟩
  | .hbm, ⟨9, _⟩ => ⟨S256x256, .i32⟩
  | .hbm, ⟨10, _⟩ => ⟨S1x256x256, .i32⟩
  | .hbm, ⟨11, _⟩ => ⟨S1x256x256, .i32⟩
  | .hbm, ⟨12, _⟩ => ⟨S2x256x256, .i32⟩
  | .hbm, ⟨13, _⟩ => ⟨S_, .i32⟩
  | .hbm, ⟨14, _⟩ => ⟨S2x256x256, .i32⟩
  | .hbm, ⟨15, _⟩ => ⟨S2x256x256, .i32⟩
  | .hbm, ⟨16, _⟩ => ⟨S_, .i32⟩
  | .hbm, ⟨17, _⟩ => ⟨S2x256x256, .i32⟩
  | .hbm, ⟨18, _⟩ => ⟨S2x256x256, .i32⟩
  | .hbm, ⟨19, _⟩ => ⟨S2x256x256, .f32⟩
  | .hbm, ⟨20, _⟩ => ⟨S_, .f32⟩
  | .hbm, ⟨21, _⟩ => ⟨S2x256x256, .f32⟩
  | .hbm, ⟨22, _⟩ => ⟨S2x256x256, .f32⟩
  | .hbm, ⟨23, _⟩ => ⟨S2x256x256, .f32⟩
  | .hbm, ⟨24, _⟩ => ⟨S_, .f32⟩
  | .hbm, ⟨25, _⟩ => ⟨S2x256x256, .f32⟩
  | .hbm, ⟨26, _⟩ => ⟨S2x256x256, .f32⟩
  | .hbm, ⟨27, _⟩ => ⟨S_, .f32⟩
  | .hbm, ⟨28, _⟩ => ⟨S2x256x256, .f32⟩
  | .hbm, ⟨29, _⟩ => ⟨S2x256x256, .f32⟩
  | .hbm, ⟨30, _⟩ => ⟨S2x256x256, .i32⟩
  | .hbm, ⟨31, _⟩ => ⟨S_, .i32⟩
  | .hbm, ⟨32, _⟩ => ⟨S2x256x256, .i32⟩
  | .hbm, ⟨33, _⟩ => ⟨S2x256x256, .i32⟩
  | .hbm, ⟨34, _⟩ => ⟨S_, .i32⟩
  | .hbm, ⟨35, _⟩ => ⟨S2x256x256, .i32⟩
  | .hbm, ⟨36, _⟩ => ⟨S2x256x256, .i1⟩
  | .hbm, ⟨37, _⟩ => ⟨S_, .i32⟩
  | .hbm, ⟨38, _⟩ => ⟨S2x256x256, .i32⟩
  | .hbm, ⟨39, _⟩ => ⟨S2x256x256, .i32⟩
  | .hbm, ⟨40, _⟩ => ⟨S2x256x256, .i32⟩
  | .hbm, ⟨41, _⟩ => ⟨S2x256x256x1, .i32⟩
  | .hbm, ⟨42, _⟩ => ⟨S1x1x1x32, .i32⟩
  | .hbm, ⟨43, _⟩ => ⟨S2x256x256x32, .i32⟩
  | .hbm, ⟨44, _⟩ => ⟨S2x256x256x32, .i32⟩
  | .hbm, ⟨45, _⟩ => ⟨S2x256x256x32, .i1⟩
  | .hbm, ⟨46, _⟩ => ⟨S2x256x256x32, .f32⟩
  | .hbm, ⟨47, _⟩ => ⟨S2x256x256x8, .f32⟩
  | .hbm, ⟨48, _⟩ => ⟨S8x2x256x256, .f32⟩
  | .hbm, ⟨49, _⟩ => ⟨S_, .i32⟩
  | .hbm, ⟨50, _⟩ => ⟨S256, .i32⟩
  | .hbm, ⟨51, _⟩ => ⟨S256, .i32⟩
  | .hbm, ⟨52, _⟩ => ⟨S2x1x128, .i32⟩
  | .hbm, ⟨53, _⟩ => ⟨S2x8x128, .i32⟩
  | .hbm, ⟨54, _⟩ => ⟨S_, .i32⟩
  | .hbm, ⟨55, _⟩ => ⟨S2x8x128, .i32⟩
  | .hbm, ⟨56, _⟩ => ⟨S2x8x128, .i32⟩
  | .hbm, ⟨57, _⟩ => ⟨S_, .i32⟩
  | .hbm, ⟨58, _⟩ => ⟨S2x8x128, .i32⟩
  | .hbm, ⟨59, _⟩ => ⟨S2x8x128, .i32⟩
  | .hbm, ⟨60, _⟩ => ⟨S2x8x128, .f32⟩
  | .hbm, ⟨61, _⟩ => ⟨S_, .f32⟩
  | .hbm, ⟨62, _⟩ => ⟨S2x8x128, .f32⟩
  | .hbm, ⟨63, _⟩ => ⟨S2x8x128, .f32⟩
  | .hbm, ⟨64, _⟩ => ⟨S2x8x128, .f32⟩
  | .hbm, ⟨65, _⟩ => ⟨S_, .f32⟩
  | .hbm, ⟨66, _⟩ => ⟨S2x8x128, .f32⟩
  | .hbm, ⟨67, _⟩ => ⟨S2x8x128, .f32⟩
  | .hbm, ⟨68, _⟩ => ⟨S_, .f32⟩
  | .hbm, ⟨69, _⟩ => ⟨S2x8x128, .f32⟩
  | .hbm, ⟨70, _⟩ => ⟨S2x8x128, .f32⟩
  | .hbm, ⟨71, _⟩ => ⟨S2x8x128, .i32⟩
  | .hbm, ⟨72, _⟩ => ⟨S_, .i32⟩
  | .hbm, ⟨73, _⟩ => ⟨S2x8x128, .i32⟩
  | .hbm, ⟨74, _⟩ => ⟨S2x8x128, .i32⟩
  | .hbm, ⟨75, _⟩ => ⟨S_, .i32⟩
  | .hbm, ⟨76, _⟩ => ⟨S2x8x128, .i32⟩
  | .hbm, ⟨77, _⟩ => ⟨S2x8x128, .i1⟩
  | .hbm, ⟨78, _⟩ => ⟨S_, .i32⟩
  | .hbm, ⟨79, _⟩ => ⟨S2x8x128, .i32⟩
  | .hbm, ⟨80, _⟩ => ⟨S2x8x128, .i32⟩
  | .hbm, ⟨81, _⟩ => ⟨S2x8x128, .i32⟩
  | .hbm, ⟨82, _⟩ => ⟨S2x8x128x1, .i32⟩
  | .hbm, ⟨83, _⟩ => ⟨S1x1x1x32, .i32⟩
  | .hbm, ⟨84, _⟩ => ⟨S2x8x128x32, .i32⟩
  | .hbm, ⟨85, _⟩ => ⟨S2x8x128x32, .i32⟩
  | .hbm, ⟨86, _⟩ => ⟨S2x8x128x32, .i1⟩
  | .hbm, ⟨87, _⟩ => ⟨S2x8x128x32, .f32⟩
  | .hbm, ⟨88, _⟩ => ⟨S2x8x128x8, .f32⟩
  | .hbm, ⟨89, _⟩ => ⟨S8x2x8x128, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_c_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_4 : Ref sig .tc := ⟨.hbm, 31, rfl⟩
abbrev main_v24 : Ref sig .tc := ⟨.hbm, 32, rfl⟩
abbrev main_v25 : Ref sig .tc := ⟨.hbm, 33, rfl⟩
abbrev main_c_5 : Ref sig .tc := ⟨.hbm, 34, rfl⟩
abbrev main_v26 : Ref sig .tc := ⟨.hbm, 35, rfl⟩
abbrev main_v27 : Ref sig .tc := ⟨.hbm, 36, rfl⟩
abbrev main_c_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_8 : Ref sig .tc := ⟨.hbm, 54, rfl⟩
abbrev main_v38 : Ref sig .tc := ⟨.hbm, 55, rfl⟩
abbrev main_v39 : Ref sig .tc := ⟨.hbm, 56, rfl⟩
abbrev main_c_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_c_14 : Ref sig .tc := ⟨.hbm, 75, rfl⟩
abbrev main_v53 : Ref sig .tc := ⟨.hbm, 76, rfl⟩
abbrev main_v54 : Ref sig .tc := ⟨.hbm, 77, rfl⟩
abbrev main_c_15 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Proof.Rows.lean ====
/- The row functions several of the layer's calls are made of, over the extended reals: the RMS-normalised row, and the
   cut of a 2816-long sum into the eleven 256-long pieces a kernel adds one after the other. -/
module

public import Idealize.ShloMosaic.Lib.Pointwise

@[expose] public section

noncomputable section

open Idealize.ShloMosaic

namespace Cert.Rows

/-- A row divided by its root mean square (with the small constant under the root) and scaled column by column. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- A sum over 2816 positions is the sum of its eleven pieces of 256 positions, added from the left. -/
theorem sum_pieces (f : Fin 2816 → EReal) :
    ∑ n, f n = (∑ t : Fin 256, f ⟨t.val, by omega⟩) + (∑ t : Fin 256, f ⟨256 + t.val, by omega⟩)
      + (∑ t : Fin 256, f ⟨512 + t.val, by omega⟩) + (∑ t : Fin 256, f ⟨768 + t.val, by omega⟩)
      + (∑ t : Fin 256, f ⟨1024 + t.val, by omega⟩) + (∑ t : Fin 256, f ⟨1280 + t.val, by omega⟩)
      + (∑ t : Fin 256, f ⟨1536 + t.val, by omega⟩) + (∑ t : Fin 256, f ⟨1792 + t.val, by omega⟩)
      + (∑ t : Fin 256, f ⟨2048 + t.val, by omega⟩) + (∑ t : Fin 256, f ⟨2304 + t.val, by omega⟩)
      + ∑ t : Fin 256, f ⟨2560 + t.val, by omega⟩ := by
  rw [Fin.sum_univ_tiles 11 256 rfl f]
  have pieces : ∀ s : Fin 11 → EReal, ∑ j, s j = s 0 + s 1 + s 2 + s 3 + s 4 + s 5 + s 6 + s 7 + s 8 + s 9 + s 10 := fun s => by
    rw [Fin.sum_univ_castSucc, Fin.sum_univ_castSucc, Fin.sum_univ_castSucc, Fin.sum_univ_eight]; rfl
  rw [pieces]
  iterate 10 refine congrArg₂ (· + ·) ?_ rfl
  exact Finset.sum_congr rfl fun t _ => congrArg f (Fin.ext (by simp))

end Cert.Rows

end
-- ==== Proof.Ffn.lean ====
/- The feed-forward call: what the kernel leaves in its result array, as one function of the call's arguments. -/
module

public import proofs.«01_k».proof.Proof.Gen.Kernel2Ideal.Value
public import proofs.«01_k».proof.Proof.Rows
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn

open Cert.Kernel2Ideal Cert.Kernel2Ideal.Gen Cert.Rows

variable (m : (ℓ : Loc nD τ sig) → Buf (Elt Ideal) ℓ)

/-- One hidden unit of one row: the gated product of its two projections. -/
def hid (h : Fin 1024 → EReal) (w1 w3 : Fin 1024 → Fin 2816 → EReal) (n : Fin 2816) : EReal :=
  (∑ k, h k * w1 k n) * Ideal.logistic (∑ k, h k * w1 k n) * ∑ k, h k * w3 k n

/-- One element of one row of the call's result: the row plus half of its feed-forward image. -/
def row (x g : Fin 1024 → EReal) (w1 w3 : Fin 1024 → Fin 2816 → EReal) (w2 : Fin 2816 → Fin 1024 → EReal) (d : Fin 1024) : EReal :=
  x d + Ideal.ofBits .f32 0x3F000000#32 * ∑ n, hid (nrm x g) w1 w3 n * w2 n d

/-- The call's result array, from the argument arrays (the first layer of the stacked weights). -/
def spec (X : FVec Ideal S16384x1024 .f32) (g : FVec Ideal S1024 .f32) (W1 W3 : FVec Ideal S2x1024x2816 .f32)
    (W2 : FVec Ideal S2x2816x1024 .f32) : FVec Ideal S16384x1024 .f32 := fun j =>
  row (fun k => X (ix2 (j 0) k)) (fun k => g (ix1 k)) (fun k n => W1 (ix3 0 k n)) (fun k n => W3 (ix3 0 k n))
    (fun n d => W2 (ix3 0 n d)) (j 1)

/-- Equal rows, weights and column give equal elements. -/
theorem row_congr {x x' g g' : Fin 1024 → EReal} {w1 w1' w3 w3' : Fin 1024 → Fin 2816 → EReal} {w2 w2' : Fin 2816 → Fin 1024 → EReal}
    {d d' : Fin 1024} (hx : x = x') (hg : g = g') (h1 : w1 = w1') (h3 : w3 = w3') (h2 : w2 = w2') (hd : d = d') :
    row x g w1 w3 w2 d = row x' g' w1' w3' w2' d' := by
  subst hx hg h1 h3 h2 hd; rfl

/-- The kernel's normalised block, at an element. -/
theorem norm_at (x : Vec Ideal S512x1024 .f32) (g : Vec Ideal S1x1024 .f32) (r : Fin 512) (k : Fin 1024) :
    k0_pay2 (F := Ideal) x g (ix2 r k) = nrm (fun j => x (ix2 r j)) (fun j => g (ix2 0 j)) k := by
  pointwise [k0_pay2, nrm]

set_option maxHeartbeats 2000000 in
/-- What one grid point stores, at an element: that row's result over the point's blocks. -/
theorem store_at (x : Vec Ideal S512x1024 .f32) (g : Vec Ideal S1x1024 .f32) (w1 w3 : Vec Ideal S1x1024x2816 .bf16)
    (w2 : Vec Ideal S1x2816x1024 .bf16) (gf : Vec Ideal S1x1024 .f32) (r : Fin 512) (d : Fin 1024) :
    out0_6 x g w1 w3 w2 gf (ix2 r d) = row (fun k => x (ix2 r k)) (fun k => g (ix2 0 k)) (fun k n => w1 (ix3 0 k n))
      (fun k n => w3 (ix3 0 k n)) (fun n d => w2 (ix3 0 n d)) d := by
  have hz : (![0, 0] : Fin 2 → ℕ) = fun _ => 0 := by decide
  unfold out0_6
  rw [View.canon_unit_zero hz]
  pointwise [k0_pay1, k0_pay3, k0_pay4, k0_pay5, k0_pay6, k0_pay7, k0_pay8, k0_pay9, k0_pay10, k0_pay11, k0_pay12,
    k0_pay13, k0_pay14, k0_pay15, k0_pay16, norm_at, row]
  rw [sum_pieces]
  simp only [hid]

/-- The windows' block indices at every grid point. -/
theorem idx : ∀ t : Fin cfg0.N, win0_0.index t = ![t.val, 0] ∧ win0_1.index t = ![0, 0] ∧ win0_2.index t = ![0, 0, 0]
    ∧ win0_3.index t = ![0, 0, 0] ∧ win0_4.index t = ![0, 0, 0] ∧ win0_6.index t = ![t.val, 0] :=
  (by decide +kernel : ∀ t : Fin grid0.N, _)

/-- What a grid point stores is the result array's element at the place its block sits. -/
theorem point (c : Dev nD) (t : Fin cfg0.N) (r : Fin 512) (d : Fin 1024) :
    out0_6 (iblk m c 0 t) (iblk m c 1 t) (iblk m c 2 t) (iblk m c 3 t) (iblk m c 4 t) (iblk m c 5 t) (ix2 r d)
      = spec (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb (ix2 r d)) := by
  refine (store_at _ _ _ _ _ _ r d).trans (row_congr (funext fun k => ?_) (funext fun k => ?_)
    (funext fun k => funext fun n => ?_) (funext fun k => funext fun n => ?_) (funext fun n => funext fun e => ?_) ?_)
  iterate 5 · blk_point [iblk, V, idx t]
  · refine Fin.ext ?_
    blk_simp [idx t]

/-- The call's result array after the run. -/
theorem final (c : Dev nD) : (dats m 0 c).arrAt 6 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  idx_vars y
  exact point m c t y0 y1

end Cert.Ffn

end
-- ==== Proof.FfnClaim.lean ====
/- The feed-forward call against its reference: equal results over the extended reals. -/
module

public import proofs.«01_k».proof.Proof.Ffn
public import proofs.«01_k».proof.Proof.Gen.Reference2Ideal.Run
public import proofs.«01_k».proof.Defs

@[expose] public section

set_option maxRecDepth 16384

noncomputable section

open Idealize.ShloMosaic Idealize.ShloMosaic.TcCoe Idealize.SL.Sem

namespace Cert.FfnClaim

set_option maxHeartbeats 2000000 in
/-- The kernel and its reference compute the same array. -/
theorem algebraic : Cert.algebraic_Kernel2Ideal_Reference2Ideal := by
  pair_intro
  · run_from Cert.Kernel2Ideal.Gen.run_main m g
  · run_from Cert.Reference2Ideal.Value.run m' g'
    refine Eq.trans ?_ (Cert.Ffn.final m c).symm
    funext j
    idx_vars j
    pointwise [Cert.Ffn.spec, Cert.Ffn.row, Cert.Ffn.hid, Cert.Rows.nrm]
    rfl

end Cert.FfnClaim

end
-- ==== Proof.Inproj.lean ====
/- The in-projection call: its nine result arrays, as column ranges of one projection of the normalised rows. -/
module

public import proofs.«01_k».proof.Proof.Gen.Kernel3Ideal.Value
public import proofs.«01_k».proof.Proof.Rows
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Inproj

open Cert.Kernel3Ideal Cert.Kernel3Ideal.Gen Cert.Rows

variable (m : (ℓ : Loc nD τ sig) → Buf (Elt Ideal) ℓ)

/-- One column of one row's projection. -/
def col (x g : Fin 1024 → EReal) (w : Fin 1024 → Fin 7168 → EReal) (n : Fin 7168) : EReal :=
  ∑ k, nrm x g k * w k n

/-- Equal rows, weights and column give equal elements. -/
theorem col_congr {x x' g g' : Fin 1024 → EReal} {w w' : Fin 1024 → Fin 7168 → EReal} {n n' : Fin 7168}
    (hx : x = x') (hg : g = g') (hw : w = w') (hn : n = n') : col x g w n = col x' g' w' n' := by
  subst hx hg hw hn; rfl

/-- The projection at a row and a column, from the argument arrays (the first layer of the stacked weight). -/
def projAt (X : FVec Ideal S16384x1024 .f32) (g : FVec Ideal S1024 .f32) (W : FVec Ideal S2x1024x7168 .f32)
    (i : Fin 16384) (n : Fin 7168) : EReal :=
  col (fun k => X (ix2 i k)) (fun k => g (ix1 k)) (fun k n => W (ix3 0 k n)) n

/-- The 512 columns of the projection from column `o` on. -/
def part (o : ℕ) (ho : o ≤ 3584) (X : FVec Ideal S16384x1024 .f32) (g : FVec Ideal S1024 .f32) (W : FVec Ideal S2x1024x7168 .f32) :
    FVec Ideal S16384x512 .f32 := fun j =>
  projAt X g W (j 0) ⟨o + (j 1).val, by have h : (j 1).val < 512 := (j 1).isLt; omega⟩

/-- The last 3072 columns of the projection. -/
def tail (X : FVec Ideal S16384x1024 .f32) (g : FVec Ideal S1024 .f32) (W : FVec Ideal S2x1024x7168 .f32) :
    FVec Ideal S16384x3072 .bf16 := fun j =>
  projAt X g W (j 0) ⟨4096 + (j 1).val, by have h : (j 1).val < 3072 := (j 1).isLt; omega⟩

/-- The kernel's normalised block, at an element. -/
theorem norm_at (x : Vec Ideal S256x1024 .f32) (g : Vec Ideal S1x1024 .f32) (r : Fin 256) (k : Fin 1024) :
    k0_pay1 (F := Ideal) x g (ix2 r k) = nrm (fun j => x (ix2 r j)) (fun j => g (ix2 0 j)) k := by
  pointwise [k0_pay1, nrm]

/-- The windows' block indices at every grid point. -/
theorem idx : ∀ t : Fin cfg0.N, win0_0.index t = ![t.val, 0] ∧ win0_1.index t = ![0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- A row of a grid point's blocks projected is the projection of the row it sits at. -/
theorem place (c : Dev nD) (t : Fin cfg0.N) (r : Fin 256) (i : Fin 16384) (hi : (i : ℕ) = t.val * 256 + r.val)
    (n n' : Fin 7168) (hn : (n : ℕ) = n'.val) :
    col (fun k => iblk m c 0 t (ix2 r k)) (fun k => iblk m c 1 t (ix2 0 k)) (fun k n => iblk m c 2 t (ix3 0 k n)) n
      = projAt (m ((c : Thread nD τ).loc main_arg0)) (m ((c : Thread nD τ).loc main_arg1)) (m ((c : Thread nD τ).loc main_arg2)) i n' := by
  refine col_congr (funext fun k => ?_) (funext fun k => ?_) (funext fun k => funext fun n => ?_) (Fin.ext hn)
  all_goals blk_point [iblk, V, idx t, hi]

/-- What one grid point stores in the eight 512-column windows, at an element. -/
theorem stores (x : Vec Ideal S256x1024 .f32) (g : Vec Ideal S1x1024 .f32) (w : Vec Ideal S1x1024x7168 .bf16)
    (r : Fin 256) (d : Fin 512) (f : Fin 7168 → EReal)
    (hf : f = col (fun k => x (ix2 r k)) (fun k => g (ix2 0 k)) (fun k n => w (ix3 0 k n))) :
    out0_3 x g w (ix2 r d) = f ⟨d.val, by omega⟩ ∧ out0_4 x g w (ix2 r d) = f ⟨512 + d.val, by omega⟩
      ∧ out0_5 x g w (ix2 r d) = f ⟨1024 + d.val, by omega⟩ ∧ out0_6 x g w (ix2 r d) = f ⟨1536 + d.val, by omega⟩
      ∧ out0_7 x g w (ix2 r d) = f ⟨2048 + d.val, by omega⟩ ∧ out0_8 x g w (ix2 r d) = f ⟨2560 + d.val, by omega⟩
      ∧ out0_9 x g w (ix2 r d) = f ⟨3072 + d.val, by omega⟩ ∧ out0_10 x g w (ix2 r d) = f ⟨3584 + d.val, by omega⟩ := by
  have hz : (![0, 0] : Fin 2 → ℕ) = fun _ => 0 := by decide
  subst hf
  unfold out0_3 out0_4 out0_5 out0_6 out0_7 out0_8 out0_9 out0_10 col
  refine ⟨?_, ?_, ?_, ?_, ?_, ?_, ?_, ?_⟩ <;>
    (rw [View.canon_unit_zero hz]
     pointwise [k0_pay2, k0_pay3, k0_pay4, k0_pay5, k0_pay6, k0_pay7, k0_pay8, k0_pay9, k0_pay16, norm_at])

/-- What one grid point stores in the 3072-column window, at an element. -/
theorem stores_tail (x : Vec Ideal S256x1024 .f32) (g : Vec Ideal S1x1024 .f32) (w : Vec Ideal S1x1024x7168 .bf16)
    (r : Fin 256) (d : Fin 3072) :
    out0_11 x g w (ix2 r d)
      = col (fun k => x (ix2 r k)) (fun k => g (ix2 0 k)) (fun k n => w (ix3 0 k n)) ⟨4096 + d.val, by omega⟩ := by
  unfold out0_11
  canon_tiles u h
  all_goals
    simp only [ix2_0, ix2_1] at h0 h1
    pointwise [k0_pay10, k0_pay11, k0_pay12, k0_pay13, k0_pay14, k0_pay15, k0_pay16, norm_at, col, nrm]
  all_goals blk_point []

/-- The call's three arguments. -/
abbrev arg (c : Dev nD) : FVec Ideal S16384x1024 .f32 × FVec Ideal S1024 .f32 × FVec Ideal S2x1024x7168 .f32 :=
  (m ((c : Thread nD τ).loc main_arg0), m ((c : Thread nD τ).loc main_arg1), m ((c : Thread nD τ).loc main_arg2))

set_option maxHeartbeats 1600000 in
/-- The eight 512-column windows' result arrays after the run. -/
theorem finals (c : Dev nD) : (dats m 0 c).arrAt 3 (cfgs 0).N = part 0 (by omega) (arg m c).1 (arg m c).2.1 (arg m c).2.2
    ∧ (dats m 0 c).arrAt 4 (cfgs 0).N = part 512 (by omega) (arg m c).1 (arg m c).2.1 (arg m c).2.2
    ∧ (dats m 0 c).arrAt 5 (cfgs 0).N = part 1024 (by omega) (arg m c).1 (arg m c).2.1 (arg m c).2.2
    ∧ (dats m 0 c).arrAt 6 (cfgs 0).N = part 1536 (by omega) (arg m c).1 (arg m c).2.1 (arg m c).2.2
    ∧ (dats m 0 c).arrAt 7 (cfgs 0).N = part 2048 (by omega) (arg m c).1 (arg m c).2.1 (arg m c).2.2
    ∧ (dats m 0 c).arrAt 8 (cfgs 0).N = part 2560 (by omega) (arg m c).1 (arg m c).2.1 (arg m c).2.2
    ∧ (dats m 0 c).arrAt 9 (cfgs 0).N = part 3072 (by omega) (arg m c).1 (arg m c).2.1 (arg m c).2.2
    ∧ (dats m 0 c).arrAt 10 (cfgs 0).N = part 3584 (by omega) (arg m c).1 (arg m c).2.1 (arg m c).2.2 := by
  refine ⟨(dats m 0 c).arrAt_eq_of_covers 3 _ (by decide +kernel) fun t _ y => ?_,
    (dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_,
    (dats m 0 c).arrAt_eq_of_covers 9 _ (by decide +kernel) fun t _ y => ?_,
    (dats m 0 c).arrAt_eq_of_covers 10 _ (by decide +kernel) fun t _ y => ?_⟩
  all_goals
    blk_simp
    idx_vars y
  · rw [after0_3]
    refine (stores _ _ _ y0 y1 _ rfl).1.trans (place m c t y0 _ ?_ _ _ ?_) <;> blk_simp [idx t]
  · rw [after0_4]
    refine (stores _ _ _ y0 y1 _ rfl).2.1.trans (place m c t y0 _ ?_ _ _ ?_) <;> blk_simp [idx t]
  · rw [after0_5]
    refine (stores _ _ _ y0 y1 _ rfl).2.2.1.trans (place m c t y0 _ ?_ _ _ ?_) <;> blk_simp [idx t]
  · rw [after0_6]
    refine (stores _ _ _ y0 y1 _ rfl).2.2.2.1.trans (place m c t y0 _ ?_ _ _ ?_) <;> blk_simp [idx t]
  · rw [after0_7]
    refine (stores _ _ _ y0 y1 _ rfl).2.2.2.2.1.trans (place m c t y0 _ ?_ _ _ ?_) <;> blk_simp [idx t]
  · rw [after0_8]
    refine (stores _ _ _ y0 y1 _ rfl).2.2.2.2.2.1.trans (place m c t y0 _ ?_ _ _ ?_) <;> blk_simp [idx t]
  · rw [after0_9]
    refine (stores _ _ _ y0 y1 _ rfl).2.2.2.2.2.2.1.trans (place m c t y0 _ ?_ _ _ ?_) <;> blk_simp [idx t]
  · rw [after0_10]
    refine (stores _ _ _ y0 y1 _ rfl).2.2.2.2.2.2.2.trans (place m c t y0 _ ?_ _ _ ?_) <;> blk_simp [idx t]

/-- The last window's result array after the run: the remaining 3072 columns. -/
theorem final11 (c : Dev nD) : (dats m 0 c).arrAt 11 (cfgs 0).N = tail
    (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  idx_vars y
  refine (stores_tail _ _ _ y0 y1).trans (place m c t y0 _ ?_ _ _ ?_) <;> blk_simp [idx t]

end Cert.Inproj

end
-- ==== Proof.InprojClaim.lean ====
/- The in-projection call against its reference: equal results over the extended reals. -/
module

public import proofs.«01_k».proof.Proof.Inproj
public import proofs.«01_k».proof.Proof.Gen.Reference3Ideal.Run
public import proofs.«01_k».proof.Defs

@[expose] public section

set_option maxRecDepth 16384

noncomputable section

open Idealize.ShloMosaic Idealize.ShloMosaic.TcCoe Idealize.SL.Sem

namespace Cert.InprojClaim

set_option maxHeartbeats 2000000 in
/-- The kernel and its reference compute the same array. -/
theorem algebraic : Cert.algebraic_Kernel3Ideal_Reference3Ideal := by
  pair_intro
  · run_from Cert.Kernel3Ideal.Gen.run_main m g
  · run_from Cert.Reference3Ideal.Value.run m' g'
    · refine Eq.trans ?_ (Cert.Inproj.finals m c).1.symm
      funext j
      idx_vars j
      pointwise [Cert.Inproj.part, Cert.Inproj.tail, Cert.Inproj.projAt, Cert.Inproj.col, Cert.Rows.nrm]
      all_goals blk_point []
    · refine Eq.trans ?_ (Cert.Inproj.finals m c).2.1.symm
      funext j
      idx_vars j
      pointwise [Cert.Inproj.part, Cert.Inproj.tail, Cert.Inproj.projAt, Cert.Inproj.col, Cert.Rows.nrm]
      all_goals blk_point []
    · refine Eq.trans ?_ (Cert.Inproj.finals m c).2.2.1.symm
      funext j
      idx_vars j
      pointwise [Cert.Inproj.part, Cert.Inproj.tail, Cert.Inproj.projAt, Cert.Inproj.col, Cert.Rows.nrm]
      all_goals blk_point []
    · refine Eq.trans ?_ (Cert.Inproj.finals m c).2.2.2.1.symm
      funext j
      idx_vars j
      pointwise [Cert.Inproj.part, Cert.Inproj.tail, Cert.Inproj.projAt, Cert.Inproj.col, Cert.Rows.nrm]
      all_goals blk_point []
    · refine Eq.trans ?_ (Cert.Inproj.finals m c).2.2.2.2.1.symm
      funext j
      idx_vars j
      pointwise [Cert.Inproj.part, Cert.Inproj.tail, Cert.Inproj.projAt, Cert.Inproj.col, Cert.Rows.nrm]
      all_goals blk_point []
    · refine Eq.trans ?_ (Cert.Inproj.finals m c).2.2.2.2.2.1.symm
      funext j
      idx_vars j
      pointwise [Cert.Inproj.part, Cert.Inproj.tail, Cert.Inproj.projAt, Cert.Inproj.col, Cert.Rows.nrm]
      all_goals blk_point []
    · refine Eq.trans ?_ (Cert.Inproj.finals m c).2.2.2.2.2.2.1.symm
      funext j
      idx_vars j
      pointwise [Cert.Inproj.part, Cert.Inproj.tail, Cert.Inproj.projAt, Cert.Inproj.col, Cert.Rows.nrm]
      all_goals blk_point []
    · refine Eq.trans ?_ (Cert.Inproj.finals m c).2.2.2.2.2.2.2.symm
      funext j
      idx_vars j
      pointwise [Cert.Inproj.part, Cert.Inproj.tail, Cert.Inproj.projAt, Cert.Inproj.col, Cert.Rows.nrm]
      all_goals blk_point []
    · refine Eq.trans ?_ (Cert.Inproj.final11 m c).symm
      funext j
      idx_vars j
      pointwise [Cert.Inproj.part, Cert.Inproj.tail, Cert.Inproj.projAt, Cert.Inproj.col, Cert.Rows.nrm]
      all_goals blk_point []

end Cert.InprojClaim

end
-- ==== Proof.Merge.lean ====
/- The merge call: what the kernel leaves in its result array, as one function of the call's arguments. -/
module

public import proofs.«01_k».proof.Proof.Gen.Kernel4Ideal.Value
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Merge

open Cert.Kernel4Ideal Cert.Kernel4Ideal.Gen

variable (m : (ℓ : Loc nD τ sig) → Buf (Elt Ideal) ℓ)

/-- One branch's gated projection at a column: the gate's sigmoid times the branch row's projection. -/
def gated (o : Fin 512 → EReal) (w : Fin 512 → Fin 1024 → EReal) (l b : Fin 1024 → EReal) (d : Fin 1024) : EReal :=
  Ideal.logistic (l d + b d) * ∑ k, o k * w k d

/-- One element of one row of the result: the row plus the projection of the three gated branches' sum. -/
def row (x : Fin 1024 → EReal) (oa ob oc : Fin 512 → EReal) (l b : Fin 3 → Fin 1024 → EReal)
    (wb : Fin 3 → Fin 512 → Fin 1024 → EReal) (wo : Fin 1024 → Fin 1024 → EReal) (e : Fin 1024) : EReal :=
  x e + ∑ d, (gated oa (wb 0) (l 0) (b 0) d + gated ob (wb 1) (l 1) (b 1) d + gated oc (wb 2) (l 2) (b 2) d) * wo d e

/-- Equal arguments give equal elements. -/
theorem row_congr {x x' : Fin 1024 → EReal} {oa oa' ob ob' oc oc' : Fin 512 → EReal} {l l' b b' : Fin 3 → Fin 1024 → EReal}
    {wb wb' : Fin 3 → Fin 512 → Fin 1024 → EReal} {wo wo' : Fin 1024 → Fin 1024 → EReal} {e e' : Fin 1024}
    (hx : x = x') (ha : oa = oa') (hb : ob = ob') (hc : oc = oc') (hl : l = l') (hbg : b = b') (hw : wb = wb') (ho : wo = wo')
    (he : e = e') : row x oa ob oc l b wb wo e = row x' oa' ob' oc' l' b' wb' wo' e' := by
  subst hx ha hb hc hl hbg hw ho he; rfl

/-- Column `d` of gate `n`, in the three gates laid side by side. -/
def lane (n : Fin 3) (d : Fin 1024) : Fin 3072 := ⟨1024 * n.val + d.val, by omega⟩

/-- The call's result array, from the argument arrays (the first layer of the stacked weights). -/
def spec (X : FVec Ideal S16384x1024 .f32) (oa ob oc : FVec Ideal S16384x512 .bf16) (gl : FVec Ideal S16384x3072 .bf16)
    (bg : FVec Ideal S3x1024 .f32) (wb : FVec Ideal S2x3x512x1024 .f32) (wo : FVec Ideal S2x1024x1024 .f32) :
    FVec Ideal S16384x1024 .f32 := fun j =>
  row (fun k => X (ix2 (j 0) k)) (fun k => oa (ix2 (j 0) k)) (fun k => ob (ix2 (j 0) k)) (fun k => oc (ix2 (j 0) k))
    (fun n d => gl (ix2 (j 0) (lane n d))) (fun n d => bg (ix2 n d)) (fun n k d => wb (ix4 0 n k d)) (fun d e => wo (ix3 0 d e)) (j 1)

/-- What one grid point stores, at an element: that row's result over the point's blocks. -/
theorem store_at (x : Vec Ideal S512x1024 .f32) (oa ob oc : Vec Ideal S512x512 .bf16) (gl : Vec Ideal S512x3072 .bf16)
    (bg : Vec Ideal S1x3072 .f32) (wb : Vec Ideal S1x3x512x1024 .bf16) (wo : Vec Ideal S1x1024x1024 .bf16) (r : Fin 512) (e : Fin 1024) :
    out0_8 x oa ob oc gl bg wb wo (ix2 r e)
      = row (fun k => x (ix2 r k)) (fun k => oa (ix2 r k)) (fun k => ob (ix2 r k)) (fun k => oc (ix2 r k))
          (fun n d => gl (ix2 r (lane n d))) (fun n d => bg (ix2 0 (lane n d))) (fun n k d => wb (ix4 0 n k d))
          (fun d e => wo (ix3 0 d e)) e := by
  have hz : (![0, 0] : Fin 2 → ℕ) = fun _ => 0 := by decide
  unfold out0_8
  rw [View.canon_unit_zero hz]
  unfold row gated lane
  pointwise [k0_pay1, k0_pay2, k0_pay3]

/-- The windows' block indices at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0, 0, 0]
    ∧ win0_7.index t = ![0, 0, 0] ∧ win0_8.index t = ![t.val, 0] :=
  (by decide +kernel : ∀ t : Fin grid0.N, _)

/-- What a grid point stores is the result array's element at the place its block sits. -/
theorem point (c : Dev nD) (t : Fin cfg0.N) (r : Fin 512) (e : Fin 1024) :
    out0_8 (iblk m c 0 t) (iblk m c 1 t) (iblk m c 2 t) (iblk m c 3 t) (iblk m c 4 t) (iblk m c 5 t) (iblk m c 6 t) (iblk m c 7 t) (ix2 r e)
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 8).blk t).view.emb (ix2 r e)) := by
  refine (store_at _ _ _ _ _ _ _ _ r e).trans (row_congr (funext fun k => ?_) (funext fun k => ?_) (funext fun k => ?_)
    (funext fun k => ?_) (funext fun n => funext fun d => ?_) (funext fun n => funext fun d => ?_)
    (funext fun n => funext fun k => funext fun d => ?_) (funext fun d => funext fun e => ?_) ?_)
  iterate 8 · blk_point [iblk, V, idx t, lane]
  · refine Fin.ext ?_
    blk_simp [idx t]

/-- The call's result array after the run. -/
theorem final (c : Dev nD) : (dats m 0 c).arrAt 8 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  idx_vars y
  exact point m c t y0 y1

end Cert.Merge

end
-- ==== Proof.MergeClaim.lean ====
/- The merge call against its reference: equal results over the extended reals. -/
module

public import proofs.«01_k».proof.Proof.Merge
public import proofs.«01_k».proof.Proof.Gen.Reference4Ideal.Run
public import proofs.«01_k».proof.Defs

@[expose] public section

set_option maxRecDepth 16384

noncomputable section

open Idealize.ShloMosaic Idealize.ShloMosaic.TcCoe Idealize.SL.Sem

namespace Cert.MergeClaim

set_option maxHeartbeats 2000000 in
/-- The kernel and its reference compute the same array. -/
theorem algebraic : Cert.algebraic_Kernel4Ideal_Reference4Ideal := by
  pair_intro
  · run_from Cert.Kernel4Ideal.Gen.run_main m g
  · run_from Cert.Reference4Ideal.Value.run m' g'
    refine Eq.trans ?_ (Cert.Merge.final m c).symm
    funext j
    idx_vars j
    pointwise [Cert.Merge.spec, Cert.Merge.row, Cert.Merge.gated, Cert.Merge.lane]
    obtain ⟨-, h1, h2, h3, -⟩ := hagree c
    refine congrArg (HAdd.hAdd (α := EReal) (β := EReal) (γ := EReal) _) (Finset.sum_congr rfl fun d _ => congrArg (fun z : EReal => z * _) ?_)
    rw [Fin.sum_univ_three]
    refine congrArg₂ (· + ·) (congrArg₂ (· + ·) ?_ ?_) ?_
    all_goals
      refine congrArg₂ (· * ·) ?_ (Finset.sum_congr rfl fun k _ => ?_)
      · unfold Ideal.logistic
        blk_point []
      · rw [mul_comm]
        first | exact congrArg (fun z : EReal => z * _) (congrFun h1 _) | exact congrArg (fun z : EReal => z * _) (congrFun h2 _) | exact congrArg (fun z : EReal => z * _) (congrFun h3 _)

end Cert.MergeClaim

end
-- ==== Proof.Frames.lean ====
/- The references' frames: each run, weakened to its unchanged arguments, with every counter at zero. -/
module

public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Defs

@[expose] public section

noncomputable section

open Idealize.ShloMosaic Idealize.ShloMosaic.TcCoe Idealize.SL.Sem

namespace Cert.Frames

/-- The recurrence's reference leaves its arguments unchanged and every counter at zero. -/
theorem reference : Cert.quiescent_ReferenceIdeal := fun m g _ =>
  (θ_run _ _ _).mono (fun r h => ⟨fun c => (h c).2.2.2, Idealize.ShloMosaic.sem_eq_zero_of_no_sems (by decide) r.2⟩)
    (Cert.ReferenceIdeal.Value.run m g)

/-- The feed-forward network's reference does. -/
theorem reference2 : Cert.quiescent_Reference2Ideal := fun m g _ =>
  (θ_run _ _ _).mono (fun r h => ⟨fun c => (h c).2, Idealize.ShloMosaic.sem_eq_zero_of_no_sems (by decide) r.2⟩)
    (Cert.Reference2Ideal.Value.run m g)

/-- The projection's reference does. -/
theorem reference3 : Cert.quiescent_Reference3Ideal := fun m g _ =>
  (θ_run _ _ _).mono (fun r h => ⟨fun c => (h c).2.2.2.2.2.2.2.2.2, Idealize.ShloMosaic.sem_eq_zero_of_no_sems (by decide) r.2⟩)
    (Cert.Reference3Ideal.Value.run m g)

/-- The merge's reference does. -/
theorem reference4 : Cert.quiescent_Reference4Ideal := fun m g _ =>
  (θ_run _ _ _).mono (fun r h => ⟨fun c => (h c).2, Idealize.ShloMosaic.sem_eq_zero_of_no_sems (by decide) r.2⟩)
    (Cert.Reference4Ideal.Value.run m g)

/-- The stick-breaking attention's reference does. -/
theorem reference5 : Cert.quiescent_Reference5Ideal := fun m g _ =>
  (θ_run _ _ _).mono (fun r h => ⟨fun c => (h c).2, Idealize.ShloMosaic.sem_eq_zero_of_no_sems (by decide) r.2⟩)
    (Cert.Reference5Ideal.Value.run m g)

/-- The decode step's reference does. -/
theorem reference6 : Cert.quiescent_Reference6Ideal := fun m g _ =>
  (θ_run _ _ _).mono (fun r h => ⟨fun c => (h c).2.2.2, Idealize.ShloMosaic.sem_eq_zero_of_no_sems (by decide) r.2⟩)
    (Cert.Reference6Ideal.Value.run m g)

/-- The last feed-forward network's reference does. -/
theorem reference7 : Cert.quiescent_Reference7Ideal := fun m g _ =>
  (θ_run _ _ _).mono (fun r h => ⟨fun c => (h c).2, Idealize.ShloMosaic.sem_eq_zero_of_no_sems (by decide) r.2⟩)
    (Cert.Reference7Ideal.Value.run m g)

/-- The bias tables' reference does. -/
theorem reference8 : Cert.quiescent_Reference8Ideal := fun m g _ =>
  (θ_run _ _ _).mono (fun r h => ⟨fun c => (h c).2.2, Idealize.ShloMosaic.sem_eq_zero_of_no_sems (by decide) r.2⟩)
    (Cert.Reference8Ideal.Value.run m g)

end Cert.Frames

end
-- ==== Proof.LruMath.lean ====
/- The recurrence `h ↦ a·h + b` over the extended reals: affine maps, the eight-row scan by doubling, and the
   coefficients' bounds. -/
module

public import Idealize.ShloMosaic.Lib.Pointwise

@[expose] public section

noncomputable section

open Idealize.ShloMosaic

namespace Cert.LruMath

/-- An affine map `x ↦ p.1 * x + p.2` at a point. -/
def act (p : EReal × EReal) (x : EReal) : EReal := p.1 * x + p.2

/-- First `q`, then `p`, as the kernel forms it: the factors multiplied, the offset of `q` carried through `p`. -/
def comp (p q : EReal × EReal) : EReal × EReal := (p.1 * q.1, p.1 * q.2 + p.2)

/-- A factor that is finite and not negative. -/
def Good (a : EReal) : Prop := 0 ≤ a ∧ a ≠ ⊤

theorem Good.mul {a b : EReal} (ha : Good a) (hb : Good b) : Good (a * b) := by
  obtain ⟨ha0, hat⟩ := ha
  obtain ⟨hb0, hbt⟩ := hb
  refine ⟨mul_nonneg ha0 hb0, ?_⟩
  lift a to ℝ using ⟨hat, (lt_of_lt_of_le (EReal.bot_lt_coe 0) ha0).ne'⟩
  lift b to ℝ using ⟨hbt, (lt_of_lt_of_le (EReal.bot_lt_coe 0) hb0).ne'⟩
  rw [← EReal.coe_mul]
  exact EReal.coe_ne_top _

/-- Composition acts as the two maps in turn. -/
theorem act_comp {p q : EReal × EReal} (hp : Good p.1) (x : EReal) : act (comp p q) x = act p (act q x) := by
  unfold act comp
  rw [EReal.left_distrib_of_nonneg_of_ne_top hp.1 hp.2, mul_assoc, add_assoc]

/-- The identity map's pair. -/
def one : EReal × EReal := (1, 0)

theorem comp_one (p : EReal × EReal) : comp p one = p := by
  unfold comp one; simp

/-- One doubling step of distance `s` over eight rows: each row composed with the row `s` before it. -/
def double (s : ℕ) (p : Fin 8 → EReal × EReal) (r : Fin 8) : EReal × EReal :=
  comp (p r) (if h : r.val < s then one else p ⟨r.val - s, by omega⟩)

theorem double_good {s : ℕ} {p : Fin 8 → EReal × EReal} (hp : ∀ r, Good (p r).1) (r : Fin 8) : Good (double s p r).1 := by
  unfold double
  split
  · rw [comp_one]; exact hp r
  · exact (hp r).mul (hp _)

/-- One doubling step at a row, acting: the row's map after the map of the row `s` before it, if there is one. -/
theorem act_double {s : ℕ} {p : Fin 8 → EReal × EReal} (hp : ∀ r, Good (p r).1) (r : Fin 8) (x : EReal) :
    act (double s p r) x = act (p r) (if h : r.val < s then x else act (p ⟨r.val - s, by omega⟩) x) := by
  unfold double
  split
  · rw [comp_one]
  · exact act_comp (hp r) x

/-- The recurrence: the state after `n` steps of `h ↦ a n · h + b n` from `h0`. -/
def state (a b : ℕ → EReal) (h0 : EReal) : ℕ → EReal
  | 0 => h0
  | n + 1 => a n * state a b h0 n + b n

/-- Going on from the state after `k` steps is the state after more steps. -/
theorem state_add (a b : ℕ → EReal) (h0 : EReal) (k : ℕ) : ∀ n,
    state (fun i => a (k + i)) (fun i => b (k + i)) (state a b h0 k) n = state a b h0 (k + n)
  | 0 => rfl
  | n + 1 => by
    show a (k + n) * state _ _ _ n + b (k + n) = a (k + n) * state a b h0 (k + n) + b (k + n)
    rw [state_add a b h0 k n]

/-- After the doubling steps of distances 1, 2, 4, row `r`'s map takes the state before the eight rows to the state
    after row `r`. -/
theorem act_scan (a b : ℕ → EReal) (ha : ∀ n, Good (a n)) (h : EReal) (r : Fin 8) :
    act (double 4 (double 2 (double 1 fun i => (a i.val, b i.val))) r) h = state a b h (r.val + 1) := by
  have g0 : ∀ i : Fin 8, Good ((fun i : Fin 8 => (a i.val, b i.val)) i).1 := fun i => ha _
  have g1 := double_good (s := 1) g0
  have g2 := double_good (s := 2) g1
  rw [act_double g2]
  simp only [act_double g1, act_double g0]
  fin_cases r <;> rfl

/-- The logistic function is finite and not negative. -/
theorem logistic_nonneg (x : EReal) : 0 ≤ Ideal.logistic x ∧ Ideal.logistic x ≠ ⊤ := by
  induction x using EReal.rec with
  | bot => simp
  | top => rw [Ideal.logistic_top]; exact ⟨zero_le_one, EReal.coe_ne_top 1⟩
  | coe r =>
    rw [Ideal.logistic_coe]
    exact ⟨EReal.coe_nonneg.2 (by positivity), EReal.coe_ne_top _⟩

/-- The exponential is not negative. -/
theorem exp_nonneg (x : EReal) : 0 ≤ Ideal.exp x := by
  induction x using EReal.rec with
  | bot => simp
  | top => simp
  | coe r => rw [Ideal.exp_coe]; exact EReal.coe_nonneg.2 (Real.exp_pos r).le

/-- The exponential of something not positive is finite and not negative. -/
theorem exp_good {x : EReal} (hx : x ≤ 0) : Good (Ideal.exp x) := by
  refine ⟨exp_nonneg x, ?_⟩
  induction x using EReal.rec with
  | bot => simp
  | top => simp at hx
  | coe r => rw [Ideal.exp_coe]; exact EReal.coe_ne_top _

/-- `log (1 + y)` of something not negative is not negative. -/
theorem log1p_nonneg {y : EReal} (hy : 0 ≤ y) : 0 ≤ Ideal.log1p y := by
  unfold Ideal.log1p
  induction y using EReal.rec with
  | bot => simp at hy
  | top =>
    rw [show (1 : EReal) + ⊤ = ⊤ from EReal.add_top_of_ne_bot (EReal.coe_ne_bot 1)]
    exact le_top
  | coe r =>
    have hr : 0 ≤ r := EReal.coe_nonneg.1 hy
    have e : (1 : EReal) + (r : EReal) = ((1 + r : ℝ) : EReal) := by push_cast; rfl
    rw [e]
    show 0 ≤ (if 1 + r ≤ 0 then ⊥ else (Real.log (1 + r) : EReal))
    rw [if_neg (by linarith)]
    exact EReal.coe_nonneg.2 (Real.log_nonneg (by linarith))

/-- The softplus function as both texts have it: `max z 0 + log (1 + exp (-|z|))`. -/
def softplus (z : EReal) : EReal := max z 0 + Ideal.log1p (Ideal.exp (-(max z (-z))))

theorem softplus_nonneg (z : EReal) : 0 ≤ softplus z :=
  add_nonneg (le_max_right _ _) (log1p_nonneg (exp_nonneg _))

/-- The logarithm of a row's factor: `-8 · r · s`, never positive for `r` and `s` not negative. -/
theorem log_nonpos {r s : EReal} (hr : 0 ≤ r) (hs : 0 ≤ s) : ((-8 : ℝ) : EReal) * r * s ≤ 0 := by
  have e : ((-8 : ℝ) : EReal) * r * s = -(((8 : ℝ) : EReal) * (r * s)) := by
    rw [EReal.coe_neg, EReal.neg_mul, EReal.neg_mul, mul_assoc]
  rw [e]
  exact EReal.neg_le_zero.2 (mul_nonneg (EReal.coe_nonneg.2 (by norm_num)) (mul_nonneg hr hs))

/-- `1 - exp (2l)` through the hyperbolic tangent: `-tanh l · (exp (2l) + 1) = -(exp (2l) - 1)` for `l` not positive. -/
theorem tanh_expm1 {l : EReal} (hl : l ≤ 0) :
    (0 - Ideal.tanh l) * (Ideal.exp (((2 : ℝ) : EReal) * l) + 1) = -(Ideal.exp (((2 : ℝ) : EReal) * l) - 1) := by
  induction l using EReal.rec with
  | top => simp at hl
  | bot =>
    rw [EReal.coe_mul_bot_of_pos (by norm_num)]
    simp
  | coe r =>
    rw [← EReal.coe_mul, Ideal.exp_coe, Ideal.tanh_coe, ← EReal.coe_one, ← EReal.coe_zero]
    norm_cast
    have h1 : Real.exp (2 * r) = Real.exp r * Real.exp r := by rw [← Real.exp_add]; ring_nf
    have h2 : Real.exp (-r) = (Real.exp r)⁻¹ := Real.exp_neg r
    rw [Real.tanh_eq_sinh_div_cosh, Real.sinh_eq, Real.cosh_eq, h1, h2]
    have hp := Real.exp_pos r
    field_simp
    ring

end Cert.LruMath

end
-- ==== Proof.LruScan.lean ====
/- The recurrence call: one group of eight rows, scanned by doubling, and the carried row from group to group. -/
module

public import proofs.«01_k».proof.Proof.Gen.KernelIdeal.Value
public import proofs.«01_k».proof.Proof.LruMath
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruScan

open Cert.KernelIdeal Cert.KernelIdeal.Gen
open Cert.LruMath

/-- The row number's test against a doubling distance, choosing between two values. -/
theorem select_head (s : ℕ) (hs : s = 1 ∨ s = 2 ∨ s = 4) (r : Fin 8) (x y : EReal) :
    Scalar.select (IntOp.cmpi CmpIPredicate.slt (BitVec.ofNat 32 r.val) (BitVec.ofNat 32 s)) x y = if r.val < s then x else y := by
  rcases hs with rfl | rfl | rfl <;> fin_cases r <;> rfl

/-- The row `s` before row `r`, where there is one, as the rotation of eight rows names it. -/
theorem rolled (s : ℕ) (hs : s ≤ 4) (r : Fin 8) (h : ¬ r.val < s) : (r.val + 8 - s) % 8 = r.val - s := by
  have := r.isLt
  omega

/-- A doubling step's factor, as the kernel forms it from the rows' factors. -/
theorem double_fst (s : ℕ) (hs : s = 1 ∨ s = 2 ∨ s = 4) (p : Fin 8 → EReal × EReal) (f : Fin 8 → EReal) (hf : ∀ i, f i = (p i).1)
    (r : Fin 8) : f r * Scalar.select (IntOp.cmpi CmpIPredicate.slt (BitVec.ofNat 32 r.val) (BitVec.ofNat 32 s)) 1
      (f ⟨(r.val + 8 - s) % 8, Nat.mod_lt _ (by norm_num)⟩) = (double s p r).1 := by
  rw [select_head s hs, hf r, hf]
  unfold double comp one
  split
  · rfl
  · next h =>
    have e : (⟨(r.val + 8 - s) % 8, Nat.mod_lt _ (by norm_num)⟩ : Fin 8) = ⟨r.val - s, by omega⟩ :=
      Fin.ext (rolled s (by omega) r h)
    rw [e]

/-- A doubling step's offset, as the kernel forms it from the rows' factors and offsets. -/
theorem double_snd (s : ℕ) (hs : s = 1 ∨ s = 2 ∨ s = 4) (p : Fin 8 → EReal × EReal) (f g : Fin 8 → EReal) (hf : ∀ i, f i = (p i).1)
    (hg : ∀ i, g i = (p i).2) (r : Fin 8) :
    f r * Scalar.select (IntOp.cmpi CmpIPredicate.slt (BitVec.ofNat 32 r.val) (BitVec.ofNat 32 s)) 0
      (g ⟨(r.val + 8 - s) % 8, Nat.mod_lt _ (by norm_num)⟩) + g r = (double s p r).2 := by
  rw [select_head s hs, hf r, hg r, hg]
  unfold double comp one
  split
  · rfl
  · next h =>
    have e : (⟨(r.val + 8 - s) % 8, Nat.mod_lt _ (by norm_num)⟩ : Fin 8) = ⟨r.val - s, by omega⟩ :=
      Fin.ext (rolled s (by omega) r h)
    rw [e]

/-- A row's offset: `sqrt (1 - a²)` times the gated input, from the factor's logarithm `l`, the input gate's
    argument `z` and the convolved input `x`. -/
def offset (l z x : EReal) : EReal :=
  Ideal.sqrt ((0 - Ideal.tanh l) * (Ideal.exp (Ideal.ofBits .f32 0x40000000#32 * l) + 1)) * (Ideal.logistic z * x)

section Steps

variable (v51 v60 v63 : FVec Ideal S256x512 .f32) (v64 v71 : Vec Ideal S1x512 .f32) (v : Fin 32) (j : Fin 512)

/-- Row `i` of group `v` among the chunk's rows. -/
def rowOf (v : Fin 32) (i : Fin 8) : Fin 256 := ⟨v.val * 8 + i.val, by omega⟩

/-- The group's maps before any doubling. -/
def start (i : Fin 8) : EReal × EReal :=
  (Ideal.exp (k0_pay11 v60 v71 (ix2 (rowOf v i) j)),
    offset (k0_pay11 v60 v71 (ix2 (rowOf v i) j)) (v63 (ix2 (rowOf v i) j) + v64 (ix2 0 j)) (v51 (ix2 (rowOf v i) j)))

theorem factor0 (i : Fin 8) : k0_pay12 v60 v71 (ix3 v i j) = (start v51 v60 v63 v64 v71 v j i).1 := by
  unfold start rowOf
  pointwise [k0_pay12]

theorem factor1 (r : Fin 8) :
    k0_pay16 (k0_pay12 v60 v71) (k0_pay13 kernelRun0_A.sl.v17) (k0_pay15 v60 v71) (Scalar.ofBits .f32 0x3F800000#32) (ix3 v r j)
      = (double 1 (start v51 v60 v63 v64 v71 v j) r).1 := by
  refine Eq.trans ?_ (double_fst 1 (by simp) _ _ (factor0 v51 v60 v63 v64 v71 v j) r)
  pointwise [k0_pay16, k0_pay15, k0_pay13, kernelRun0_A.sl.v17]

theorem offset1 (r : Fin 8) :
    k0_pay14 kernelRun0_A.sl.v17 v51 v60 v63 v64 v71 (ix3 v r j) = (double 1 (start v51 v60 v63 v64 v71 v j) r).2 := by
  refine Eq.trans ?_ (double_snd 1 (by simp) _ _ (fun i => (start v51 v60 v63 v64 v71 v j i).2)
    (factor0 v51 v60 v63 v64 v71 v j) (fun i => rfl) r)
  unfold start rowOf offset
  pointwise [k0_pay14, k0_pay13, kernelRun0_A.sl.v17]

theorem factor2 (r : Fin 8) :
    k0_pay18 kernelRun0_A.sl.v17 (k0_pay12 v60 v71) (k0_pay13 kernelRun0_A.sl.v17) (k0_pay15 v60 v71) (Scalar.ofBits .f32 0x3F800000#32)
        (ix3 v r j) = (double 2 (double 1 (start v51 v60 v63 v64 v71 v j)) r).1 := by
  refine Eq.trans ?_ (double_fst 2 (by simp) _ _ (factor1 v51 v60 v63 v64 v71 v j) r)
  pointwise [k0_pay18, k0_pay17, kernelRun0_A.sl.v17]

/-- The factors after the three doubling steps. -/
theorem factor4 (r : Fin 8) :
    k0_pay21 kernelRun0_A.sl.v17 (k0_pay12 v60 v71) (k0_pay13 kernelRun0_A.sl.v17) (k0_pay15 v60 v71) (Scalar.ofBits .f32 0x3F800000#32)
        (ix3 v r j) = (double 4 (double 2 (double 1 (start v51 v60 v63 v64 v71 v j))) r).1 := by
  refine Eq.trans ?_ (double_fst 4 (by simp) _ _ (factor2 v51 v60 v63 v64 v71 v j) r)
  pointwise [k0_pay21, k0_pay19, kernelRun0_A.sl.v17]

/-- The offsets after the three doubling steps. -/
theorem offset4 (r : Fin 8) :
    k0_pay20 kernelRun0_A.sl.v17 (k0_pay12 v60 v71) (k0_pay13 kernelRun0_A.sl.v17) (k0_pay14 kernelRun0_A.sl.v17 v51 v60 v63 v64 v71)
        (k0_pay15 v60 v71) (Scalar.ofBits .f32 0x3F800000#32) (ix3 v r j)
      = (double 4 (double 2 (double 1 (start v51 v60 v63 v64 v71 v j))) r).2 := by
  have h2 : ∀ r : Fin 8, _ = (double 2 (double 1 (start v51 v60 v63 v64 v71 v j)) r).2 :=
    double_snd 2 (by simp) _ _ _ (factor1 v51 v60 v63 v64 v71 v j) (offset1 v51 v60 v63 v64 v71 v j)
  refine Eq.trans ?_ (double_snd 4 (by simp) _ _ _ (factor2 v51 v60 v63 v64 v71 v j) h2 r)
  pointwise [k0_pay20, k0_pay19, k0_pay17, kernelRun0_A.sl.v17]

end Steps

theorem fits : ∀ v : Fin 32, Shape.Slices S32x8x512 ![v.val, 0, 0] S1x8x512 := by decide

/-- Group `v`'s eight states, from the carried row: its scanned factors times the carried row, plus its scanned offsets. -/
def states (P S : FVec Ideal S32x8x512 .f32) (h : FVec Ideal S1x512 .f32) (v : Fin 32) : FVec Ideal S8x512 .f32 :=
  addf (mulf (shapeCast S8x512 (extractStridedSlice S1x8x512 ![v.val, 0, 0] P (fits v)) shapeCasts_S1x8x512_S8x512)
      (broadcastTo S8x512 h broadcasts_S1x512_S8x512))
    (shapeCast S8x512 (extractStridedSlice S1x8x512 ![v.val, 0, 0] S (fits v)) shapeCasts_S1x8x512_S8x512)

/-- The carried row before group `n`: the last of the states of the group before it. -/
def carry (P S : FVec Ideal S32x8x512 .f32) (h : FVec Ideal S1x512 .f32) : ℕ → FVec Ideal S1x512 .f32
  | 0 => h
  | n + 1 => extractStridedSlice S1x512 ![7, 0] (states P S (carry P S h n) (Fin.ofNat 32 n)) slices_S8x512_o7_0_S1x512

/-- Group `v`'s part of the chunk's result: its states times the gate. -/
def part (P S G : FVec Ideal S32x8x512 .f32) (h : FVec Ideal S1x512 .f32) (v : Fin 32) : FVec Ideal S8x512 .f32 :=
  mulf (states P S (carry P S h v.val) v)
    (shapeCast S8x512 (extractStridedSlice S1x8x512 ![v.val, 0, 0] G (fits v)) shapeCasts_S1x8x512_S8x512)

theorem states_at (P S : FVec Ideal S32x8x512 .f32) (h : FVec Ideal S1x512 .f32) (v : Fin 32) (r : Fin 8) (j : Fin 512) :
    states P S h v (ix2 r j) = P (ix3 v r j) * h (ix2 0 j) + S (ix3 v r j) := by
  pointwise [states]

/-- If every group's scanned maps take a state to the states after its rows, then the carried rows and the states are
    those of the recurrence. -/
theorem states_eq (P S : FVec Ideal S32x8x512 .f32) (h : FVec Ideal S1x512 .f32) (j : Fin 512) (a b : ℕ → EReal)
    (hs : ∀ (v : Fin 32) (r : Fin 8) (x : EReal), P (ix3 v r j) * x + S (ix3 v r j)
      = state (fun n => a (8 * v.val + n)) (fun n => b (8 * v.val + n)) x (r.val + 1)) :
    (∀ n ≤ 32, carry P S h n (ix2 0 j) = state a b (h (ix2 0 j)) (8 * n))
      ∧ ∀ (v : Fin 32) (r : Fin 8), states P S (carry P S h v.val) v (ix2 r j) = state a b (h (ix2 0 j)) (8 * v.val + (r.val + 1)) := by
  have step : ∀ (v : Fin 32) (r : Fin 8), carry P S h v.val (ix2 0 j) = state a b (h (ix2 0 j)) (8 * v.val) →
      states P S (carry P S h v.val) v (ix2 r j) = state a b (h (ix2 0 j)) (8 * v.val + (r.val + 1)) := by
    intro v r hv
    rw [states_at, hs, hv, state_add]
  have carries : ∀ n ≤ 32, carry P S h n (ix2 0 j) = state a b (h (ix2 0 j)) (8 * n) := by
    intro n
    induction n with
    | zero => intro _; rfl
    | succ n ih =>
      intro hn
      have e : Fin.ofNat 32 n = ⟨n, by omega⟩ := Fin.ext (Nat.mod_eq_of_lt (by omega))
      have := step ⟨n, by omega⟩ 7 (ih (by omega))
      rw [← e] at this
      have l : ∀ x : FVec Ideal S8x512 .f32, extractStridedSlice S1x512 ![7, 0] x slices_S8x512_o7_0_S1x512 (ix2 0 j) = x (ix2 7 j) := by
        intro x; pointwise []
      unfold carry
      rw [l]
      rw [e] at this ⊢
      exact this
  exact ⟨carries, fun v r => step v r (carries v.val (by omega))⟩

end Cert.LruScan

end
-- ==== Proof.LruSpec.lean ====
/- The rows of the recurrent layer, over the extended reals: the short convolution along time, the two gates, the coefficients of
   the recurrence, and the activation the result is multiplied by. -/
module

public import Idealize.ShloMosaic.Lib.Pointwise
public import proofs.«01_k».proof.Proof.LruMath
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruSpec

open Cert.LruMath

/-- What the layer's weights are: the convolution's taps and offset, the two gates' matrices and offsets, the decay. -/
structure Layer where
  tap : Fin 4 → Fin 512 → EReal
  base : Fin 512 → EReal
  wr : Fin 512 → Fin 512 → EReal
  br : Fin 512 → EReal
  wi : Fin 512 → Fin 512 → EReal
  bi : Fin 512 → EReal
  lam : Fin 512 → EReal

namespace Layer

variable (L : Layer) (x : ℕ → Fin 512 → EReal)

/-- The convolution at step `t`: four rows of the padded sequence `x` from row `t` on. -/
def conv (t : ℕ) (j : Fin 512) : EReal :=
  L.base j + (x t j * L.tap 0 j + x (t + 1) j * L.tap 1 j + x (t + 2) j * L.tap 2 j + x (t + 3) j * L.tap 3 j)

/-- The recurrence gate. -/
def rgate (t : ℕ) (j : Fin 512) : EReal := Ideal.logistic (∑ k, L.conv x t k * L.wr k j + L.br j)

/-- The input gate. -/
def igate (t : ℕ) (j : Fin 512) : EReal := Ideal.logistic (∑ k, L.conv x t k * L.wi k j + L.bi j)

/-- The logarithm of the decay. -/
def loga (t : ℕ) (j : Fin 512) : EReal := Ideal.ofBits .f32 0xC1000000#32 * L.rgate x t j * softplus (-L.lam j)

/-- The decay at step `t`. -/
def decay (t : ℕ) (j : Fin 512) : EReal := Ideal.exp (L.loga x t j)

/-- The input at step `t`. -/
def input (t : ℕ) (j : Fin 512) : EReal :=
  Ideal.sqrt (-(Ideal.exp (Ideal.ofBits .f32 0x40000000#32 * L.loga x t j) - 1)) * (L.igate x t j * L.conv x t j)

/-- The state after `n` steps from `h`. -/
def hidden (h : Fin 512 → EReal) (j : Fin 512) (n : ℕ) : EReal := state (fun t => L.decay x t j) (fun t => L.input x t j) (h j) n

theorem eight : Ideal.ofBits .f32 0xC1000000#32 = ((-8 : ℝ) : EReal) := by
  simp [Ideal.ofBits, Ideal.ieee, -EReal.coe_mul, -EReal.coe_neg]; norm_num

theorem two : Ideal.ofBits .f32 0x40000000#32 = ((2 : ℝ) : EReal) := by
  simp [Ideal.ofBits, Ideal.ieee, -EReal.coe_mul, -EReal.coe_neg]; norm_num

theorem loga_nonpos (t : ℕ) (j : Fin 512) : L.loga x t j ≤ 0 := by
  unfold loga
  rw [eight]
  exact log_nonpos (logistic_nonneg _).1 (softplus_nonneg _)

theorem decay_good (t : ℕ) (j : Fin 512) : Good (L.decay x t j) := exp_good (L.loga_nonpos x t j)

/-- The input, its factor written with the hyperbolic tangent. -/
theorem input_tanh (t : ℕ) (j : Fin 512) :
    L.input x t j = Ideal.sqrt ((0 - Ideal.tanh (L.loga x t j)) * (Ideal.exp (Ideal.ofBits .f32 0x40000000#32 * L.loga x t j) + 1))
      * (L.igate x t j * L.conv x t j) := by
  unfold input
  rw [two, tanh_expm1 (L.loga_nonpos x t j)]

end Layer

/-- The activation the states are multiplied by. -/
def gelu (x : EReal) : EReal :=
  Ideal.ofBits .f32 0x3F000000#32 * x
    * (1 + Ideal.tanh (Ideal.ofBits .f32 0x3F4C422A#32 * (x + Ideal.ofBits .f32 0x3D372713#32 * (x * x * x))))

end Cert.LruSpec

end
-- ==== Proof.LruTrip.lean ====
/- The recurrence call: one trip of its loop. A trip takes 256 rows, starting from the carried row, and leaves the states of
   these rows times the gate, and the last state. -/
module

public import Idealize.ShloMosaic.Lib.WholeRead
public import proofs.«01_k».proof.Proof.LruScan
public import proofs.«01_k».proof.Proof.LruSpec
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruTrip

open Cert.KernelIdeal Cert.KernelIdeal.Gen Cert.LruMath Cert.LruScan Cert.LruSpec

/-- The rectangle of a rank-two buffer whose place is a row and a column, at an index. -/
theorem rect_at {m n a b : ℕ} (off : Fin 2 → ℕ) (h : ∀ i, off i + (![m, n] : Fin 2 → ℕ) i ≤ (⟨2, ![a, b]⟩ : Shape).size i) (p q : ℕ) (e : off = ![p, q]) (x : Fin m) (y : Fin n)
    (hp : p + x.val < a) (hq : q + y.val < b) :
    (Rect.unit (s := ⟨2, ![a, b]⟩) off ![m, n] h).idx (ix2 x y) = ix2 ⟨p + x.val, hp⟩ ⟨q + y.val, hq⟩ := by
  subst e
  funext i
  apply Fin.ext
  rw [Rect.idx_unit_val]
  match i with
  | 0 => rfl
  | 1 => rfl

theorem off1 : ∀ k : Fin k0_t1_loop.trips, k0_off1 k = ![256 * k.val, 0] := by decide +kernel

theorem off2 : ∀ k : Fin k0_t1_loop.trips, k0_off2 k = ![256 * k.val, 0] := by decide +kernel

theorem trips8 : ∀ k : Fin k0_t1_loop.trips, k.val < 8 := by decide +kernel

theorem pad_lt (t : Fin 2051) : 5 + t.val < 2056 := by omega

theorem row_lt (k : Fin k0_t1_loop.trips) (R : Fin 256) : 256 * k.val + R.val < 2048 := by have := trips8 k; omega

theorem group_lt (k : Fin k0_t1_loop.trips) (v : Fin 32) (r : Fin 8) : 256 * k.val + (8 * v.val + r.val) < 2048 := by
  have := trips8 k; omega

variable (arg2 : Memref sig .tc .vmem S2048x512 .f32) (harg2 : arg2.IsWhole)
  (arg5 : Memref sig .tc .vmem S4x512 .f32) (harg5 : arg5.IsWhole)
  (arg6 : Memref sig .tc .vmem S1x512 .f32) (harg6 : arg6.IsWhole)
  (arg7 : Memref sig .tc .vmem S512x512 .bf16) (harg7 : arg7.IsWhole)
  (arg8 : Memref sig .tc .vmem S1x512 .f32) (harg8 : arg8.IsWhole)
  (arg9 : Memref sig .tc .vmem S512x512 .bf16) (harg9 : arg9.IsWhole)
  (arg10 : Memref sig .tc .vmem S1x512 .f32) (harg10 : arg10.IsWhole)
  (arg11 : Memref sig .tc .vmem S1x512 .f32) (harg11 : arg11.IsWhole)
  (arg15 : Memref sig .tc .vmem S2056x512 .f32)
  (X15 : BufTy.Contents (Elt Ideal) arg15.view.ty)
  (x1 : Vec Ideal S2048x512 .f32) (x4 : Vec Ideal S4x512 .f32) (x5 : Vec Ideal S1x512 .f32) (x6 : Vec Ideal S512x512 .bf16)
  (x7 : Vec Ideal S1x512 .f32) (x8 : Vec Ideal S512x512 .bf16) (x9 : Vec Ideal S1x512 .f32) (x10 : Vec Ideal S1x512 .f32)

/-- The layer whose weights the call's blocks are. -/
def layer : Layer where
  tap i j := x4 (ix2 i j)
  base j := x5 (ix2 0 j)
  wr k j := x6 (ix2 k j)
  br j := x7 (ix2 0 j)
  wi k j := x8 (ix2 k j)
  bi j := x9 (ix2 0 j)
  lam j := x10 (ix2 0 j)

variable (x : ℕ → Fin 512 → EReal)
  (hx : ∀ (t : Fin 2051) (j : Fin 512), View.read (Elt Ideal) arg15.view X15 (ix2 ⟨5 + t.val, pad_lt t⟩ j) = x t.val j)

include hx

/-- The convolution of a trip's rows. -/
theorem conv_at (k : Fin k0_t1_loop.trips) (R : Fin 256) (j : Fin 512) :
    trip_k0_t1.sl.r arg5 arg6 arg15 (harg5.unread x4) (harg6.unread x5) X15 k (ix2 R j) = (layer x4 x5 x6 x7 x8 x9 x10).conv x (256 * k.val + R.val) j := by
  have h8 := trips8 k
  have row : ∀ (i : ℕ) (hi : i < 4) (hb : 5 + i + R.val < 264), View.read (Elt Ideal) arg15.view X15
      ((Rect.unit (s := S2056x512) (k0_off1 k) ![264, 512] (k0_off1_inb k)).idx (ix2 ⟨5 + i + R.val, hb⟩ j)) = x (256 * k.val + R.val + i) j := by
    intro i hi hb
    rw [rect_at _ _ _ _ (off1 k) _ _ (show 256 * k.val + (5 + i + R.val) < 2056 by omega) (show 0 + j.val < 512 by omega)]
    refine Eq.trans (congrArg _ ?_) (hx ⟨256 * k.val + R.val + i, by omega⟩ j)
    exact congrArg₂ ix2 (Fin.ext (by simp; omega)) (Fin.ext (by simp))
  have tap : ∀ (i : Fin 4) h, View.read (Elt Ideal) arg5.view (harg5.unread x4) ((Rect.unit (s := S4x512) ![i.val, 0] ![1, 512] h).idx (ix2 0 j)) = x4 (ix2 i j) := by
    intro i h
    rw [rect_at _ _ _ _ rfl _ _ (show i.val + 0 < 4 by omega) (show 0 + j.val < 512 by omega), harg5.read_unread]
    exact congrArg x4 (congrArg₂ ix2 (Fin.ext (by simp)) (Fin.ext (by simp)))
  unfold trip_k0_t1.sl.r
  pointwise [k0_pay7]
  simp only [View.readAt_apply]
  have r0 := row 0 (by omega) (by omega)
  have r1 := row 1 (by omega) (by omega)
  have r2 := row 2 (by omega) (by omega)
  have r3 := row 3 (by omega) (by omega)
  have base : View.read (Elt Ideal) arg6.view (harg6.unread x5) ((Rect.unit (s := S1x512) ![0, 0] ![1, 512] inb_S1x512_S1x512_0_0).idx (ix2 0 j)) = x5 (ix2 0 j) := by
    rw [rect_at _ _ _ _ rfl _ _ (show 0 + 0 < 1 by omega) (show 0 + j.val < 512 by omega), harg6.read_unread]
    exact congrArg x5 (congrArg₂ ix2 (Fin.ext (by simp)) (Fin.ext (by simp)))
  exact congrArg₂ (· + ·) base (congrArg₂ (· + ·) (congrArg₂ (· + ·) (congrArg₂ (· + ·)
    (congrArg₂ (· * ·) r0 (tap 0 _)) (congrArg₂ (· * ·) r1 (tap 1 _))) (congrArg₂ (· * ·) r2 (tap 2 _))) (congrArg₂ (· * ·) r3 (tap 3 _)))

omit hx in
theorem pay9_at (v28 : Vec Ideal S264x512 .f32) (v30 v34 v39 v44 v48 : Vec Ideal S1x512 .f32) (v53 : Vec Ideal S512x512 .bf16)
    (v56 : Vec Ideal S1x512 .f32) (R : Fin 256) (j : Fin 512) :
    k0_pay9 v28 v30 v34 v39 v44 v48 v53 v56 (ix2 R j)
      = Ideal.logistic (∑ q, k0_pay7 v28 v30 v34 v39 v44 v48 (ix2 R q) * v53 (ix2 q j) + v56 (ix2 0 j)) := by
  pointwise [k0_pay9, k0_pay8]

omit hx in
theorem pay10_at (v28 : Vec Ideal S264x512 .f32) (v30 v34 v39 v44 v48 : Vec Ideal S1x512 .f32) (v61 : Vec Ideal S512x512 .bf16)
    (R : Fin 256) (j : Fin 512) :
    k0_pay10 v28 v30 v34 v39 v44 v48 v61 (ix2 R j) = ∑ q, k0_pay7 v28 v30 v34 v39 v44 v48 (ix2 R q) * v61 (ix2 q j) := by
  pointwise [k0_pay10, k0_pay8]

omit hx in
/-- A whole block's read, at an index. -/
theorem whole_at {a b : ℕ} {e : EltTy} (arg : Memref sig .tc .vmem ⟨2, ![a, b]⟩ e) (harg : arg.IsWhole) (X : Vec Ideal ⟨2, ![a, b]⟩ e) (h) (p : Fin a) (q : Fin b) :
    View.readAt (Elt Ideal) arg.view (Rect.unit (s := ⟨2, ![a, b]⟩) ![0, 0] ![a, b] h).toLoadRect (harg.unread X) (ix2 p q) = X (ix2 p q) := by
  rw [View.readAt_apply]
  have e := rect_at (a := a) (b := b) ![0, 0] h _ _ rfl p q (by omega) (by omega)
  refine (congrArg _ e).trans ?_
  rw [harg.read_unread]
  exact congrArg X (congrArg₂ ix2 (Fin.ext (by simp)) (Fin.ext (by simp)))

theorem rgate_at (k : Fin k0_t1_loop.trips) (R : Fin 256) (j : Fin 512) :
    trip_k0_t1.sl.r_1 arg5 arg6 arg7 arg8 arg15 (harg5.unread x4) (harg6.unread x5) (harg7.unread x6) (harg8.unread x7) X15 k (ix2 R j)
      = (layer x4 x5 x6 x7 x8 x9 x10).rgate x (256 * k.val + R.val) j := by
  unfold trip_k0_t1.sl.r_1
  refine (pay9_at _ _ _ _ _ _ _ _ _ _).trans ?_
  refine congrArg Ideal.logistic (congrArg₂ (· + ·) (Finset.sum_congr rfl fun q _ => ?_) (whole_at arg8 harg8 x7 _ 0 j))
  exact congrArg₂ (· * ·) (conv_at arg5 harg5 arg6 harg6 arg15 X15 x4 x5 x6 x7 x8 x9 x10 x hx k R q) (whole_at arg7 harg7 x6 _ q j)

theorem ilogit_at (k : Fin k0_t1_loop.trips) (R : Fin 256) (j : Fin 512) :
    trip_k0_t1.sl.r_2 arg5 arg6 arg9 arg15 (harg5.unread x4) (harg6.unread x5) (harg9.unread x8) X15 k (ix2 R j)
      = ∑ q, (layer x4 x5 x6 x7 x8 x9 x10).conv x (256 * k.val + R.val) q * (layer x4 x5 x6 x7 x8 x9 x10).wi q j := by
  unfold trip_k0_t1.sl.r_2
  refine (pay10_at _ _ _ _ _ _ _ _ _).trans ?_
  exact Finset.sum_congr rfl fun q _ =>
    congrArg₂ (· * ·) (conv_at arg5 harg5 arg6 harg6 arg15 X15 x4 x5 x6 x7 x8 x9 x10 x hx k R q) (whole_at arg9 harg9 x8 _ q j)

theorem loga_at (k : Fin k0_t1_loop.trips) (R : Fin 256) (j : Fin 512) :
    k0_pay11 (trip_k0_t1.sl.r_1 arg5 arg6 arg7 arg8 arg15 (harg5.unread x4) (harg6.unread x5) (harg7.unread x6) (harg8.unread x7) X15 k)
        (View.readAt (Elt Ideal) arg11.view (Rect.unit (s := S1x512) ![0, 0] S1x512.size inb_S1x512_S1x512_0_0).toLoadRect (harg11.unread x10)) (ix2 R j)
      = (layer x4 x5 x6 x7 x8 x9 x10).loga x (256 * k.val + R.val) j := by
  have e : ∀ (v60 : FVec Ideal S256x512 .f32) (v71 : Vec Ideal S1x512 .f32), k0_pay11 v60 v71 (ix2 R j)
      = Ideal.ofBits .f32 0xC1000000#32 * v60 (ix2 R j) * softplus (-v71 (ix2 0 j)) := by
    intro v60 v71
    unfold softplus
    pointwise [k0_pay11]
    simp only [zero_sub]
    rfl
  rw [e, rgate_at arg5 harg5 arg6 harg6 arg7 harg7 arg8 harg8 arg15 X15 x4 x5 x6 x7 x8 x9 x10 x hx k R j]
  exact congrArg (fun z => Ideal.ofBits .f32 0xC1000000#32 * (layer x4 x5 x6 x7 x8 x9 x10).rgate x (256 * k.val + R.val) j * softplus (-z)) (whole_at arg11 harg11 x10 _ 0 j)

/-- A group's maps before any doubling are the recurrence's. -/
theorem start_at (k : Fin k0_t1_loop.trips) (v : Fin 32) (j : Fin 512) :
    start (trip_k0_t1.sl.r arg5 arg6 arg15 (harg5.unread x4) (harg6.unread x5) X15 k)
        (trip_k0_t1.sl.r_1 arg5 arg6 arg7 arg8 arg15 (harg5.unread x4) (harg6.unread x5) (harg7.unread x6) (harg8.unread x7) X15 k)
        (trip_k0_t1.sl.r_2 arg5 arg6 arg9 arg15 (harg5.unread x4) (harg6.unread x5) (harg9.unread x8) X15 k)
        (View.readAt (Elt Ideal) arg10.view (Rect.unit (s := S1x512) ![0, 0] S1x512.size inb_S1x512_S1x512_0_0).toLoadRect (harg10.unread x9))
        (View.readAt (Elt Ideal) arg11.view (Rect.unit (s := S1x512) ![0, 0] S1x512.size inb_S1x512_S1x512_0_0).toLoadRect (harg11.unread x10)) v j
      = fun i => ((layer x4 x5 x6 x7 x8 x9 x10).decay x (256 * k.val + (8 * v.val + i.val)) j, (layer x4 x5 x6 x7 x8 x9 x10).input x (256 * k.val + (8 * v.val + i.val)) j) := by
  funext i
  have t : 256 * k.val + (rowOf v i).val = 256 * k.val + (8 * v.val + i.val) := by
    have : (rowOf v i).val = v.val * 8 + i.val := rfl
    omega
  have l := loga_at arg5 harg5 arg6 harg6 arg7 harg7 arg8 harg8 arg11 harg11 arg15 X15 x4 x5 x6 x7 x8 x9 x10 x hx k (rowOf v i) j
  have g := ilogit_at arg5 harg5 arg6 harg6 arg9 harg9 arg15 X15 x4 x5 x6 x7 x8 x9 x10 x hx k (rowOf v i) j
  have c := conv_at arg5 harg5 arg6 harg6 arg15 X15 x4 x5 x6 x7 x8 x9 x10 x hx k (rowOf v i) j
  have w : View.readAt (Elt Ideal) arg10.view (Rect.unit (s := S1x512) ![0, 0] S1x512.size inb_S1x512_S1x512_0_0).toLoadRect (harg10.unread x9) (ix2 0 j) = (layer x4 x5 x6 x7 x8 x9 x10).bi j :=
    whole_at arg10 harg10 x9 _ 0 j
  unfold start
  rw [l, g, c, w, t]
  unfold offset
  rw [Layer.input_tanh]
  rfl

/-- The carried row after a trip. -/
theorem carry_at (k : Fin k0_t1_loop.trips) (acc : FVec Ideal S1x512 .f32) (h : Fin 512 → EReal) (j : Fin 512)
    (hacc : acc (ix2 0 j) = (layer x4 x5 x6 x7 x8 x9 x10).hidden x h j (256 * k.val)) :
    trip_k0_t1.sl.r_46 arg5 arg6 arg7 arg8 arg9 arg10 arg11 arg15 kernelRun0_A.sl.v17 (harg5.unread x4) (harg6.unread x5) (harg7.unread x6)
        (harg8.unread x7) (harg9.unread x8) (harg10.unread x9) (harg11.unread x10) X15 k acc (ix2 0 j)
      = (layer x4 x5 x6 x7 x8 x9 x10).hidden x h j (256 * (k.val + 1))
    ∧ ∀ (v : Fin 32) (r : Fin 8), states
        (trip_k0_t1.sl.r_7 arg5 arg6 arg7 arg8 arg11 arg15 kernelRun0_A.sl.v17 (harg5.unread x4) (harg6.unread x5) (harg7.unread x6)
          (harg8.unread x7) (harg11.unread x10) X15 k)
        (trip_k0_t1.sl.r_6 arg5 arg6 arg7 arg8 arg9 arg10 arg11 arg15 kernelRun0_A.sl.v17 (harg5.unread x4) (harg6.unread x5) (harg7.unread x6)
          (harg8.unread x7) (harg9.unread x8) (harg10.unread x9) (harg11.unread x10) X15 k)
        (carry
          (trip_k0_t1.sl.r_7 arg5 arg6 arg7 arg8 arg11 arg15 kernelRun0_A.sl.v17 (harg5.unread x4) (harg6.unread x5) (harg7.unread x6)
            (harg8.unread x7) (harg11.unread x10) X15 k)
          (trip_k0_t1.sl.r_6 arg5 arg6 arg7 arg8 arg9 arg10 arg11 arg15 kernelRun0_A.sl.v17 (harg5.unread x4) (harg6.unread x5) (harg7.unread x6)
            (harg8.unread x7) (harg9.unread x8) (harg10.unread x9) (harg11.unread x10) X15 k) acc v.val) v (ix2 r j)
        = (layer x4 x5 x6 x7 x8 x9 x10).hidden x h j (256 * k.val + (8 * v.val + (r.val + 1))) := by
  have s := states_eq
    (trip_k0_t1.sl.r_7 arg5 arg6 arg7 arg8 arg11 arg15 kernelRun0_A.sl.v17 (harg5.unread x4) (harg6.unread x5) (harg7.unread x6)
      (harg8.unread x7) (harg11.unread x10) X15 k)
    (trip_k0_t1.sl.r_6 arg5 arg6 arg7 arg8 arg9 arg10 arg11 arg15 kernelRun0_A.sl.v17 (harg5.unread x4) (harg6.unread x5) (harg7.unread x6)
      (harg8.unread x7) (harg9.unread x8) (harg10.unread x9) (harg11.unread x10) X15 k) acc j
    (fun n => (layer x4 x5 x6 x7 x8 x9 x10).decay x (256 * k.val + n) j) (fun n => (layer x4 x5 x6 x7 x8 x9 x10).input x (256 * k.val + n) j) ?_
  · unfold Layer.hidden at hacc ⊢
    rw [hacc] at s
    exact ⟨(s.1 32 (le_refl 32)).trans (state_add (fun t => (layer x4 x5 x6 x7 x8 x9 x10).decay x t j) (fun t => (layer x4 x5 x6 x7 x8 x9 x10).input x t j) (h j) (256 * k.val) 256),
      fun v r => (s.2 v r).trans (state_add (fun t => (layer x4 x5 x6 x7 x8 x9 x10).decay x t j) (fun t => (layer x4 x5 x6 x7 x8 x9 x10).input x t j) (h j) (256 * k.val) _)⟩
  · intro v r y
    have st := start_at arg5 harg5 arg6 harg6 arg7 harg7 arg8 harg8 arg9 harg9 arg10 harg10 arg11 harg11 arg15 X15 x4 x5 x6 x7 x8 x9 x10 x hx k v j
    have P := factor4
      (trip_k0_t1.sl.r arg5 arg6 arg15 (harg5.unread x4) (harg6.unread x5) X15 k)
      (trip_k0_t1.sl.r_1 arg5 arg6 arg7 arg8 arg15 (harg5.unread x4) (harg6.unread x5) (harg7.unread x6) (harg8.unread x7) X15 k)
      (trip_k0_t1.sl.r_2 arg5 arg6 arg9 arg15 (harg5.unread x4) (harg6.unread x5) (harg9.unread x8) X15 k)
      (View.readAt (Elt Ideal) arg10.view (Rect.unit (s := S1x512) ![0, 0] S1x512.size inb_S1x512_S1x512_0_0).toLoadRect (harg10.unread x9))
      (View.readAt (Elt Ideal) arg11.view (Rect.unit (s := S1x512) ![0, 0] S1x512.size inb_S1x512_S1x512_0_0).toLoadRect (harg11.unread x10)) v j r
    have S := offset4
      (trip_k0_t1.sl.r arg5 arg6 arg15 (harg5.unread x4) (harg6.unread x5) X15 k)
      (trip_k0_t1.sl.r_1 arg5 arg6 arg7 arg8 arg15 (harg5.unread x4) (harg6.unread x5) (harg7.unread x6) (harg8.unread x7) X15 k)
      (trip_k0_t1.sl.r_2 arg5 arg6 arg9 arg15 (harg5.unread x4) (harg6.unread x5) (harg9.unread x8) X15 k)
      (View.readAt (Elt Ideal) arg10.view (Rect.unit (s := S1x512) ![0, 0] S1x512.size inb_S1x512_S1x512_0_0).toLoadRect (harg10.unread x9))
      (View.readAt (Elt Ideal) arg11.view (Rect.unit (s := S1x512) ![0, 0] S1x512.size inb_S1x512_S1x512_0_0).toLoadRect (harg11.unread x10)) v j r
    rw [st] at P S
    refine Eq.trans (congrArg₂ (fun p s => p * y + s) P S) ?_
    exact act_scan (fun n => (layer x4 x5 x6 x7 x8 x9 x10).decay x (256 * k.val + (8 * v.val + n)) j) (fun n => (layer x4 x5 x6 x7 x8 x9 x10).input x (256 * k.val + (8 * v.val + n)) j)
      (fun n => Layer.decay_good _ _ _ _) y r

omit hx in
theorem gate_at (k : Fin k0_t1_loop.trips) (v : Fin 32) (r : Fin 8) (j : Fin 512) :
    trip_k0_t1.sl.r_8 arg2 (harg2.unread x1) k (ix3 v r j)
      = gelu (x1 (ix2 ⟨256 * k.val + (8 * v.val + r.val), group_lt k v r⟩ j)) := by
  have h8 := trips8 k
  have e : View.readAt (Elt Ideal) arg2.view (Rect.unit (s := S2048x512) (k0_off2 k) S256x512.size (k0_off2_inb k)).toLoadRect (harg2.unread x1)
      (ix2 ⟨v.val * 8 + r.val, by omega⟩ j) = x1 (ix2 ⟨256 * k.val + (8 * v.val + r.val), by omega⟩ j) := by
    rw [View.readAt_apply]
    refine (congrArg _ (rect_at _ _ _ _ (off2 k) _ _ (show 256 * k.val + (v.val * 8 + r.val) < 2048 by omega) (show 0 + j.val < 512 by omega))).trans ?_
    rw [harg2.read_unread]
    exact congrArg x1 (congrArg₂ ix2 (Fin.ext (by simp; omega)) (Fin.ext (by simp)))
  have p : ∀ z : Vec Ideal S256x512 .f32, k0_pay22 z (ix3 v r j) = gelu (z (ix2 ⟨v.val * 8 + r.val, by omega⟩ j)) := by
    intro z
    unfold gelu
    pointwise [k0_pay22]
  unfold trip_k0_t1.sl.r_8
  rw [p, e]

/-- A trip's stored rows: the states after each of the rows, times the gate. -/
theorem stored_at (k : Fin k0_t1_loop.trips) (acc : FVec Ideal S1x512 .f32) (h : Fin 512 → EReal) (R : Fin 256) (j : Fin 512)
    (hacc : acc (ix2 0 j) = (layer x4 x5 x6 x7 x8 x9 x10).hidden x h j (256 * k.val)) :
    trip_k0_t1.sl.r_47 arg2 arg5 arg6 arg7 arg8 arg9 arg10 arg11 arg15 kernelRun0_A.sl.v17 (harg2.unread x1) (harg5.unread x4) (harg6.unread x5)
        (harg7.unread x6) (harg8.unread x7) (harg9.unread x8) (harg10.unread x9) (harg11.unread x10) X15 k acc (ix2 R j)
      = (layer x4 x5 x6 x7 x8 x9 x10).hidden x h j (256 * k.val + R.val + 1) * gelu (x1 (ix2 ⟨256 * k.val + R.val, row_lt k R⟩ j)) := by
  have h8 := trips8 k
  let v : Fin 32 := ⟨R.val / 8, by omega⟩
  let r : Fin 8 := ⟨R.val % 8, by omega⟩
  have hR : R.val = 8 * v.val + r.val := (Nat.div_add_mod R.val 8).symm
  have c := (carry_at arg5 harg5 arg6 harg6 arg7 harg7 arg8 harg8 arg9 harg9 arg10 harg10 arg11 harg11 arg15 X15 x4 x5 x6 x7 x8 x9 x10 x hx k acc h j hacc).2 v r
  have g := gate_at arg2 harg2 x1 k v r j
  refine Eq.trans (concatenate_ofFn_apply (a := 0) (fun v : Fin 32 => part
    (trip_k0_t1.sl.r_7 arg5 arg6 arg7 arg8 arg11 arg15 kernelRun0_A.sl.v17 (harg5.unread x4) (harg6.unread x5) (harg7.unread x6)
      (harg8.unread x7) (harg11.unread x10) X15 k)
    (trip_k0_t1.sl.r_6 arg5 arg6 arg7 arg8 arg9 arg10 arg11 arg15 kernelRun0_A.sl.v17 (harg5.unread x4) (harg6.unread x5) (harg7.unread x6)
      (harg8.unread x7) (harg9.unread x8) (harg10.unread x9) (harg11.unread x10) X15 k) (trip_k0_t1.sl.r_8 arg2 (harg2.unread x1) k) acc v)
    concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0 rfl 8 rfl (ix2 R j) v rfl (ix2 r j) ?_ ?_) ?_
  · rfl
  · intro b hb
    match b with
    | 0 => exact absurd rfl hb
    | 1 => rfl
  · have q : ∀ P S G h, part P S G h v (ix2 r j) = states P S (carry P S h v.val) v (ix2 r j) * G (ix3 v r j) := by
      intro P S G h
      pointwise [part]
    rw [q, c, g]
    congr 2
    · omega
    · exact congrArg x1 (congrArg₂ ix2 (Fin.ext (by simp [hR])) rfl)

end Cert.LruTrip

end
-- ==== Proof.LruLoop.lean ====
/- The recurrence call: its loop and its three results. The scratch buffer holds the padded sequence; the loop's eight trips carry
   the state and store the rows; the last three rows of the scratch buffer are the next call's first. -/
module

public import Idealize.ShloMosaic.Lib.WritesUnit
public import proofs.«01_k».proof.Proof.LruTrip
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruLoop

open Cert.KernelIdeal Cert.KernelIdeal.Gen Cert.LruMath Cert.LruScan Cert.LruSpec Cert.LruTrip

variable (c : Dev nD) (i : grid0.Coords)
  (arg1 : Memref sig .tc .vmem S2048x512 .f32) (harg1 : arg1.IsWhole)
  (arg2 : Memref sig .tc .vmem S2048x512 .f32) (harg2 : arg2.IsWhole)
  (arg3 : Memref sig .tc .vmem S1x3x512 .f32) (harg3 : arg3.IsWhole)
  (arg4 : Memref sig .tc .vmem S1x1x512 .f32) (harg4 : arg4.IsWhole)
  (arg5 : Memref sig .tc .vmem S4x512 .f32) (harg5 : arg5.IsWhole)
  (arg6 : Memref sig .tc .vmem S1x512 .f32) (harg6 : arg6.IsWhole)
  (arg7 : Memref sig .tc .vmem S512x512 .bf16) (harg7 : arg7.IsWhole)
  (arg8 : Memref sig .tc .vmem S1x512 .f32) (harg8 : arg8.IsWhole)
  (arg9 : Memref sig .tc .vmem S512x512 .bf16) (harg9 : arg9.IsWhole)
  (arg10 : Memref sig .tc .vmem S1x512 .f32) (harg10 : arg10.IsWhole)
  (arg11 : Memref sig .tc .vmem S1x512 .f32) (harg11 : arg11.IsWhole)
  (arg12 : Memref sig .tc .vmem S2048x512 .bf16) (harg12 : arg12.IsWhole)
  (arg13 : Memref sig .tc .vmem S1x3x512 .f32) (harg13 : arg13.IsWhole)
  (arg14 : Memref sig .tc .vmem S1x1x512 .f32) (harg14 : arg14.IsWhole)
  (arg15 : Memref sig .tc .vmem S2056x512 .f32) (harg15 : arg15.IsWhole)
  (x0 : Vec Ideal S2048x512 .f32) (x1 : Vec Ideal S2048x512 .f32) (x2 : Vec Ideal S1x3x512 .f32) (x3 : Vec Ideal S1x1x512 .f32) (x4 : Vec Ideal S4x512 .f32) (x5 : Vec Ideal S1x512 .f32) (x6 : Vec Ideal S512x512 .bf16) (x7 : Vec Ideal S1x512 .f32) (x8 : Vec Ideal S512x512 .bf16) (x9 : Vec Ideal S1x512 .f32) (x10 : Vec Ideal S1x512 .f32)

/-- The loop's state: the carried row and the stored pieces. -/
def loop (X15 : BufTy.Contents (Elt Ideal) arg15.view.ty) (init : FVec Ideal S1x512 .f32) (n : ℕ) :
    FVec Ideal S1x512 .f32 × List (View.Piece (Elt Ideal) S2048x512 .bf16) :=
  st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 kernelRun0_A.sl.v17 (harg2.unread x1) (harg5.unread x4) (harg6.unread x5) (harg7.unread x6) (harg8.unread x7) (harg9.unread x8) (harg10.unread x9) (harg11.unread x10) X15 init n

/-- The padded sequence of a block: three rows from before, then the block's rows. -/
def padded (j3 : Vec Ideal S1x3x512 .f32) (xb : Vec Ideal S2048x512 .f32) (t : ℕ) (j : Fin 512) : EReal :=
  if h : t < 3 then j3 (ix3 0 ⟨t, h⟩ j) else if h' : t - 3 < 2048 then xb (ix2 ⟨t - 3, h'⟩ j) else 0

/-- Row by row, what the loop stores: the state after the row times the gate. -/
def out (L : Layer) (x : ℕ → Fin 512 → EReal) (h : Fin 512 → EReal) (g : FVec Ideal S2048x512 .f32) : FVec Ideal S2048x512 .bf16 :=
  fun y => L.hidden x h (y 1) ((y 0).val + 1) * gelu (g y)

section Loop

variable (X15 : BufTy.Contents (Elt Ideal) arg15.view.ty) (x : ℕ → Fin 512 → EReal)
  (hx : ∀ (t : Fin 2051) (j : Fin 512), View.read (Elt Ideal) arg15.view X15 (ix2 ⟨5 + t.val, pad_lt t⟩ j) = x t.val j)
  (init : FVec Ideal S1x512 .f32) (h : Fin 512 → EReal) (hinit : ∀ j, init (ix2 0 j) = h j)

include hx hinit in
theorem loop_at : ∀ n ≤ 8,
    (∀ j, (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init n).1 (ix2 0 j) = (layer x4 x5 x6 x7 x8 x9 x10).hidden x h j (256 * n))
    ∧ (∀ p ∈ (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init n).2, ∀ y : p.1.shape.Idx, p.2 y = out (layer x4 x5 x6 x7 x8 x9 x10) x h x1 (p.1.emb y))
    ∧ ∀ (R : Fin 2048) (j : Fin 512), R.val < 256 * n →
        ∃ p ∈ (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init n).2, ix2 R j ∈ p.1.set := by
  intro n
  induction n with
  | zero =>
    intro _
    refine ⟨fun j => ?_, fun p hp => absurd hp (List.not_mem_nil), fun R j hR => absurd hR (by omega)⟩
    exact hinit j
  | succ n ih =>
    intro hn
    obtain ⟨i1, i2, i3⟩ := ih (by omega)
    have hk : n < k0_t1_loop.trips := lt_of_lt_of_le hn (by decide +kernel)
    have e : loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init (n + 1) = _ :=
      st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 kernelRun0_A.sl.v17 (harg2.unread x1) (harg5.unread x4) (harg6.unread x5) (harg7.unread x6) (harg8.unread x7) (harg9.unread x8) (harg10.unread x9) (harg11.unread x10) X15 init ⟨n, hk⟩
    have car := fun j => (carry_at arg5 harg5 arg6 harg6 arg7 harg7 arg8 harg8 arg9 harg9 arg10 harg10 arg11 harg11 arg15 X15 x4 x5 x6 x7 x8 x9 x10 x hx ⟨n, hk⟩ _ h j (i1 j)).1
    have sto := fun R j => stored_at arg2 harg2 arg5 harg5 arg6 harg6 arg7 harg7 arg8 harg8 arg9 harg9 arg10 harg10 arg11 harg11 arg15 X15 x1 x4 x5 x6 x7 x8 x9 x10 x hx ⟨n, hk⟩ _ h R j (i1 j)
    have e1 : (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init (n + 1)).1 = _ := congrArg Prod.fst e
    have e2 : (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init (n + 1)).2 = _ := congrArg Prod.snd e
    have u1 : (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init (n + 1)).1 =
        trip_k0_t1.sl.r_46 arg5 arg6 arg7 arg8 arg9 arg10 arg11 arg15 kernelRun0_A.sl.v17 (harg5.unread x4) (harg6.unread x5) (harg7.unread x6) (harg8.unread x7) (harg9.unread x8) (harg10.unread x9) (harg11.unread x10) X15 ⟨n, hk⟩
          (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init n).1 := by
      rw [e1]; unfold tripR_k0_t1 trip_k0_t1; rfl
    have u2 : (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init (n + 1)).2 =
        (⟨Rect.unit (s := S2048x512) (k0_off2 ⟨n, hk⟩) S256x512.size (k0_off2_inb ⟨n, hk⟩), trip_k0_t1.sl.r_47 arg2 arg5 arg6 arg7 arg8 arg9 arg10 arg11 arg15 kernelRun0_A.sl.v17 (harg2.unread x1) (harg5.unread x4) (harg6.unread x5) (harg7.unread x6) (harg8.unread x7) (harg9.unread x8) (harg10.unread x9) (harg11.unread x10) X15 ⟨n, hk⟩
          (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init n).1⟩ : View.Piece (Elt Ideal) S2048x512 .bf16) ::
            (loop c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10 X15 init n).2 := by
      rw [e2]; unfold tripL_k0_t1 trip_k0_t1; rfl
    rw [u1, u2]
    refine ⟨car, fun p hp => ?_, fun R j hR => ?_⟩
    · rcases List.mem_cons.mp hp with rfl | hp
      · intro y
        have y01 : (y : S256x512.Idx) = ix2 (y 0) (y 1) := eq_ix2 (y : S256x512.Idx)
        refine Eq.trans (congrArg _ y01) ((sto (y 0) (y 1)).trans ?_)
        have em : (Rect.unit (s := S2048x512) (k0_off2 ⟨n, hk⟩) S256x512.size (k0_off2_inb ⟨n, hk⟩)).emb y = ix2 ⟨256 * n + (y 0).val, by have := (y 0).isLt; simp at this; omega⟩ (y 1) := by
          refine (congrArg _ y01).trans ((rect_at _ _ _ _ (off2 ⟨n, hk⟩) (y 0) (y 1) (by have := (y 0).isLt; simp at this; simp; omega) (by have := (y 1).isLt; simp at this; simp; omega)).trans ?_)
          exact congrArg₂ ix2 rfl (Fin.ext (Nat.zero_add _))
        rw [em]
        rfl
      · exact i2 p hp
    · by_cases hR' : R.val < 256 * n
      · obtain ⟨p, hp, hm⟩ := i3 R j hR'
        exact ⟨p, List.mem_cons_of_mem _ hp, hm⟩
      · refine ⟨_, List.mem_cons_self, ?_⟩
        rw [Rect.mem_set_unit]
        rw [off2]
        intro a
        match a with
        | 0 => exact ⟨not_lt.mp hR', by show R.val < 256 * n + 256; omega⟩
        | 1 => exact ⟨Nat.zero_le _, by show j.val < 0 + 512; omega⟩

end Loop

/-- A whole rank-three block's read, at an index. -/
theorem whole3_at {p q r : ℕ} {e : EltTy} (arg : Memref sig .tc .vmem ⟨3, ![p, q, r]⟩ e) (harg : arg.IsWhole) (X : Vec Ideal ⟨3, ![p, q, r]⟩ e) (h)
    (y : (⟨3, ![p, q, r]⟩ : Shape).Idx) :
    View.readAt (Elt Ideal) arg.view (Rect.unit (s := ⟨3, ![p, q, r]⟩) ![0, 0, 0] ![p, q, r] h).toLoadRect (harg.unread X) y = X y := by
  rw [View.readAt_apply]
  have e : (Rect.unit (s := ⟨3, ![p, q, r]⟩) ![0, 0, 0] ![p, q, r] h).idx y = y := by
    funext a
    apply Fin.ext
    rw [Rect.idx_unit_val]
    match a with
    | 0 => exact Nat.zero_add _
    | 1 => exact Nat.zero_add _
    | 2 => exact Nat.zero_add _
  exact (congrArg _ e).trans (congrFun (harg.read_unread X) y)

/-- The scratch buffer's rows, once filled: the padded sequence from row 5 on. -/
theorem scratch_at (t : Fin 2051) (j : Fin 512) :
    View.read (Elt Ideal) arg15.view (arg15.view.writes (Elt Ideal) arg15.view.junk (kernelRun0_A.sl.HS0_3 c arg1 harg1 arg3 harg3 x0 x2))
      (ix2 ⟨5 + t.val, pad_lt t⟩ j) = padded x2 x0 t.val j := by
  unfold kernelRun0_A.sl.HS0_3 padded
  by_cases ht : t.val < 3
  · rw [dif_pos ht]
    refine (View.read_writes_cons_rows_of_not_mem arg15.view _ _ _ _ (ix2 ⟨5 + t.val, pad_lt t⟩ j) (o := 8) (W := 2048) rfl rfl
      (Or.inl (by show 5 + t.val < 8; omega))).trans ?_
    refine (View.read_writes_cons_rows_of_mem arg15.view _ _ _ _ (ix2 ⟨5 + t.val, pad_lt t⟩ j) (ix2 ⟨t.val, ht⟩ j) (o := 5) rfl rfl rfl).trans ?_
    have e : ∀ X : Vec Ideal S1x3x512 .f32, k0_pay2 X (ix2 ⟨t.val, ht⟩ j) = X (ix3 0 ⟨t.val, ht⟩ j) := by
      intro X
      pointwise [k0_pay2]
    exact (e _).trans (whole3_at arg3 harg3 x2 _ _)
  · rw [dif_neg ht, dif_pos (by omega)]
    have ht' : t.val - 3 < 2048 := by omega
    have hr : 5 + t.val = 8 + (t.val - 3) := by omega
    refine (View.read_writes_cons_rows_of_mem arg15.view _ _ _ _ (ix2 ⟨5 + t.val, pad_lt t⟩ j) (ix2 (⟨t.val - 3, ht'⟩ : Fin 2048) j : S2048x512.Idx)
      (o := 8) rfl hr rfl).trans ?_
    have e : ∀ (X : Vec Ideal S2048x512 .f32) y, k0_pay3 X y = X y := by
      intro X y
      idx_vars y
      pointwise [k0_pay3]
    exact (e _ _).trans (whole_at arg1 harg1 x0 _ _ _)

/-- One store over a whole rank-three block, read back. -/
theorem stored3_at {p q r : ℕ} {e : EltTy} {κ : Kind} {sp : Space} (v : View sig κ sp ⟨3, ![p, q, r]⟩ e) (f) (h) (w : Vec Ideal ⟨3, ![p, q, r]⟩ e)
    (y : (⟨3, ![p, q, r]⟩ : Shape).Idx) :
    v.read (Elt Ideal) (v.writes (Elt Ideal) f [⟨Rect.unit (s := ⟨3, ![p, q, r]⟩) ![0, 0, 0] ![p, q, r] h, w⟩]) y = w y := by
  refine View.read_writes_cons_unit_of_mem v f h w [] y y rfl fun a => ?_
  match a with
  | 0 => exact (Nat.zero_add _).symm
  | 1 => exact (Nat.zero_add _).symm
  | 2 => exact (Nat.zero_add _).symm

theorem first_at (j : Fin 512) :
    k0_pay5 (View.readAt (Elt Ideal) arg4.view (Rect.unit (s := S1x1x512) ![0, 0, 0] S1x1x512.size inb_S1x1x512_S1x1x512_0_0_0).toLoadRect (harg4.unread x3)) (ix2 0 j)
      = x3 (ix3 0 0 j) := by
  have e : ∀ X : Vec Ideal S1x1x512 .f32, k0_pay5 X (ix2 0 j) = X (ix3 0 0 j) := by
    intro X
    pointwise [k0_pay5]
  exact (e _).trans (whole3_at arg4 harg4 x3 _ _)

/-- The first result's block: the states times the gate. -/
theorem out11_at (y : S2048x512.Idx) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 y = out (layer x4 x5 x6 x7 x8 x9 x10) (padded x2 x0) (fun j => x3 (ix3 0 0 j)) x1 y := by
  obtain ⟨-, l2, l3⟩ := loop_at c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10
     (arg15.view.writes (Elt Ideal) arg15.view.junk (kernelRun0_A.sl.HS0_3 c arg1 harg1 arg3 harg3 x0 x2)) (padded x2 x0)
     (scratch_at c arg1 harg1 arg3 harg3 arg15 x0 x2) _ (fun j => x3 (ix3 0 0 j)) (first_at arg4 harg4 x3) 8 (le_refl 8)
  unfold out0_A_11 kernelRun0_A
  dsimp only
  refine View.read_writes_apply_of_pieces VO0_11 _ _ _ l2 y ?_
  rw [eq_ix2 y]
  exact l3 (y 0) (y 1) (y 0).isLt

/-- The last result's block: the last state. -/
theorem out13_at (j : Fin 512) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix3 0 0 j) = (layer x4 x5 x6 x7 x8 x9 x10).hidden (padded x2 x0) (fun j => x3 (ix3 0 0 j)) j 2048 := by
  obtain ⟨l1, -, -⟩ := loop_at c i arg1 harg1 arg2 harg2 arg3 harg3 arg4 harg4 arg5 harg5 arg6 harg6 arg7 harg7 arg8 harg8 arg9 harg9 arg10 harg10 arg11 harg11 arg12 harg12 arg13 harg13 arg14 harg14 arg15 harg15 x1 x4 x5 x6 x7 x8 x9 x10
     (arg15.view.writes (Elt Ideal) arg15.view.junk (kernelRun0_A.sl.HS0_3 c arg1 harg1 arg3 harg3 x0 x2)) (padded x2 x0)
     (scratch_at c arg1 harg1 arg3 harg3 arg15 x0 x2) _ (fun j => x3 (ix3 0 0 j)) (first_at arg4 harg4 x3) 8 (le_refl 8)
  unfold out0_A_13 kernelRun0_A
  dsimp only
  refine (stored3_at VO0_13 _ _ _ _).trans ?_
  have e : ∀ X : FVec Ideal S1x512 .f32, k0_pay6 X (ix3 0 0 j) = X (ix2 0 j) := by
    intro X
    pointwise [k0_pay6]
  exact (e _).trans (l1 j)

/-- The second result's block: the padded sequence's last three rows. -/
theorem out12_at (r : Fin 3) (j : Fin 512) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 (ix3 0 r j) = padded x2 x0 (2048 + r.val) j := by
  unfold out0_A_12 kernelRun0_A
  dsimp only
  unfold kernelRun0_A.sl.H12_1 kernelRun0_A.sl.v13
  refine (stored3_at VO0_12 _ _ _ _).trans ?_
  have e : ∀ X : Vec Ideal S3x512 .f32, k0_pay4 X (ix3 0 r j) = X (ix2 r j) := by
    intro X
    pointwise [k0_pay4]
  refine (e _).trans ?_
  unfold View.readCov
  rw [View.readAt_apply]
  refine (congrArg _ (rect_at _ _ _ _ rfl _ _ (show 2053 + r.val < 2056 by omega) (show 0 + j.val < 512 by omega))).trans ?_
  refine Eq.trans (congrArg _ (congrArg₂ ix2 (Fin.ext ?_) (Fin.ext (Nat.zero_add _)))) (scratch_at c arg1 harg1 arg3 harg3 arg15 x0 x2 ⟨2048 + r.val, by omega⟩ j)
  show 2053 + r.val = 5 + (2048 + r.val)
  omega

end Cert.LruLoop

end
-- ==== Proof.LruKernel.lean ====
/- The recurrence call: the arrays it leaves, from the argument arrays. -/
module

public import proofs.«01_k».proof.Proof.LruLoop
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruKernel

open Cert.KernelIdeal Cert.KernelIdeal.Gen Cert.LruMath Cert.LruSpec Cert.LruTrip Cert.LruLoop

variable (m : (ℓ : Loc nD τ sig) → Buf (Elt Ideal) ℓ)

/-- The 512 × 512 matrix whose eight 64 × 64 diagonal blocks are `w`'s, and whose other elements are zero. -/
def diag (w : FVec Ideal S8x64x64 .f32) (k j : Fin 512) : EReal :=
  w (ix3 ⟨k.val / 64, by omega⟩ ⟨k.val % 64, by omega⟩ ⟨j.val % 64, by omega⟩) * if k.val / 64 = j.val / 64 then 1 else 0

/-- The layer of the argument arrays. -/
def layerOf (cw : FVec Ideal S4x512 .f32) (cb : FVec Ideal S512 .f32) (wa : FVec Ideal S8x64x64 .f32) (ba : FVec Ideal S512 .f32)
    (wx : FVec Ideal S8x64x64 .f32) (bx lam : FVec Ideal S512 .f32) : Layer where
  tap i j := cw (ix2 i j)
  base j := cb (ix1 j)
  wr := diag wa
  br j := ba (ix1 j)
  wi := diag wx
  bi j := bx (ix1 j)
  lam j := lam (ix1 j)

/-- Sequence `b`, with its three rows from before. -/
def seqOf (xb : FVec Ideal S16384x512 .f32) (cbuf : FVec Ideal S8x3x512 .f32) (b : Fin 8) (t : ℕ) (j : Fin 512) : EReal :=
  if h : t < 3 then cbuf (ix3 b ⟨t, h⟩ j) else if h' : t - 3 < 2048 then xb (ix2 ⟨2048 * b.val + (t - 3), by omega⟩ j) else 0

/-- The first result: every row's state times the gate. -/
def spec11 (L : Layer) (xb gb : FVec Ideal S16384x512 .f32) (cbuf : FVec Ideal S8x3x512 .f32) (h0 : FVec Ideal S8x1x512 .f32) :
    FVec Ideal S16384x512 .bf16 := fun y =>
  L.hidden (seqOf xb cbuf ⟨(y 0).val / 2048, Nat.div_lt_of_lt_mul (y 0).isLt⟩)
    (fun j => h0 (ix3 ⟨(y 0).val / 2048, Nat.div_lt_of_lt_mul (y 0).isLt⟩ 0 j)) (y 1) ((y 0).val % 2048 + 1) * gelu (gb y)

/-- The second result: every sequence's last three rows. -/
def spec12 (xb : FVec Ideal S16384x512 .f32) (cbuf : FVec Ideal S8x3x512 .f32) : FVec Ideal S8x3x512 .f32 := fun y =>
  seqOf xb cbuf (y 0) (2048 + (y 1).val) (y 2)

/-- The third result: every sequence's last state. -/
def spec13 (L : Layer) (xb : FVec Ideal S16384x512 .f32) (cbuf : FVec Ideal S8x3x512 .f32) (h0 : FVec Ideal S8x1x512 .f32) :
    FVec Ideal S8x1x512 .f32 := fun y => L.hidden (seqOf xb cbuf (y 0)) (fun j => h0 (ix3 (y 0) 0 j)) (y 2) 2048

/-- The windows' block indices at every grid point. -/
theorem idx : ∀ t : Fin cfg0.N, win0_0.index t = ![t.val, 0] ∧ win0_1.index t = ![t.val, 0] ∧ win0_2.index t = ![t.val, 0, 0]
    ∧ win0_3.index t = ![t.val, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0, 0] ∧ win0_13.index t = ![t.val, 0, 0] :=
  (by decide +kernel : ∀ t : Fin grid0.N, _)

theorem lt8 : ∀ t : Fin cfg0.N, t.val < 8 := (by decide +kernel : ∀ t : Fin grid0.N, t.val < 8)

/-- The identity matrix's element, as it is computed. -/
theorem eye : ∀ p q : ℕ, p < 8 → q < 8 →
    FloatOps.uitofp (F := Ideal) FTy.f32 (IntOp.cmpi CmpIPredicate.eq (IntOp.addi (BitVec.ofNat 32 p) 0#32) (BitVec.ofNat 32 q))
      = if p = q then 1 else 0 := by
  have hb : ∀ p q : Fin 8, IntOp.cmpi CmpIPredicate.eq (IntOp.addi (BitVec.ofNat 32 p.val) 0#32) (BitVec.ofNat 32 q.val)
      = if p.val = q.val then 1#1 else 0#1 := by decide
  intro p q hp hq
  rw [hb ⟨p, hp⟩ ⟨q, hq⟩]
  show FloatOps.uitofp (F := Ideal) FTy.f32 (if p = q then 1#1 else 0#1) = _
  split
  · show ((((1#1 : BitVec 1).toNat : ℝ)) : EReal) = 1
    simp
  · show ((((0#1 : BitVec 1).toNat : ℝ)) : EReal) = 0
    simp

theorem diag_eq (w : FVec Ideal S8x64x64 .f32) (k j : Fin 512) :
    diag w k j = w (ix3 ⟨k.val / 64, by omega⟩ ⟨k.val % 64, by omega⟩ ⟨j.val % 64, by omega⟩)
      * FloatOps.uitofp (F := Ideal) FTy.f32 (IntOp.cmpi CmpIPredicate.eq (IntOp.addi (BitVec.ofNat 32 (k.val / 64)) 0#32) (BitVec.ofNat 32 (j.val / 64))) := by
  rw [eye _ _ (by omega) (by omega)]
  rfl

variable (c : Dev nD) (t : Fin cfg0.N)

/-- The layer of the blocks a grid point reads is the layer of the argument arrays. -/
theorem layer_eq : layer (iblk m c 4 t) (iblk m c 5 t) (iblk m c 6 t) (iblk m c 7 t) (iblk m c 8 t) (iblk m c 9 t) (iblk m c 10 t)
    = layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold layer layerOf
  congr 1
  · funext n j; blk_point [iblk, V, idx t]
  · funext j; blk_point [iblk, V, idx t]
  · funext k j
    refine Eq.trans ?_ (diag_eq (m ((c : Thread nD τ).loc main_arg6)) k j).symm
    blk_point [iblk, V, idx t]
  · funext j; blk_point [iblk, V, idx t]
  · funext k j
    refine Eq.trans ?_ (diag_eq (m ((c : Thread nD τ).loc main_arg8)) k j).symm
    blk_point [iblk, V, idx t]
  · funext j; blk_point [iblk, V, idx t]
  · funext j; blk_point [iblk, V, idx t]

/-- The padded sequence of the blocks a grid point reads is that of the argument arrays. -/
theorem padded_eq : padded (iblk m c 2 t) (iblk m c 0 t)
    = seqOf (m ((c : Thread nD τ).loc main_arg0)) (m ((c : Thread nD τ).loc main_arg2)) ⟨t.val, lt8 t⟩ := by
  have h8 := lt8 t
  funext n j
  unfold padded seqOf
  split
  · blk_point [iblk, V, idx t]
  · split
    · blk_point [iblk, V, idx t]
    · rfl

theorem first_eq : (fun j => (iblk m c 3 t : Vec Ideal S1x1x512 .f32) (ix3 0 0 j))
    = fun j => m ((c : Thread nD τ).loc main_arg3) (ix3 ⟨t.val, lt8 t⟩ 0 j) := by
  funext j
  blk_point [iblk, V, idx t]

theorem outs11 (y : S2048x512.Idx) : (outsAt0 m c t).1 y = out (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (seqOf (m ((c : Thread nD τ).loc main_arg0)) (m ((c : Thread nD τ).loc main_arg2)) ⟨t.val, lt8 t⟩) (fun j => m ((c : Thread nD τ).loc main_arg3) (ix3 ⟨t.val, lt8 t⟩ 0 j)) (iblk m c 1 t) y := by
  have e := out11_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) y
  rw [layer_eq, padded_eq, first_eq] at e
  exact e

theorem outs12 : (outsAt0 m c t).2.1 = fun y => seqOf (m ((c : Thread nD τ).loc main_arg0)) (m ((c : Thread nD τ).loc main_arg2)) ⟨t.val, lt8 t⟩ (2048 + (y 1).val) (y 2) := by
  unfold outsAt0
  dsimp only
  funext y
  rw [eq_ix3 y]
  have e := out12_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (y 1) (y 2)
  rw [padded_eq] at e
  have z : y 0 = (0 : Fin 1) := Subsingleton.elim (α := Fin 1) _ _
  rw [z]
  exact e

theorem outs13 : (outsAt0 m c t).2.2 = fun y => Layer.hidden (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (seqOf (m ((c : Thread nD τ).loc main_arg0)) (m ((c : Thread nD τ).loc main_arg2)) ⟨t.val, lt8 t⟩) (fun j => m ((c : Thread nD τ).loc main_arg3) (ix3 ⟨t.val, lt8 t⟩ 0 j)) (y 2) 2048 := by
  unfold outsAt0
  dsimp only
  funext y
  rw [eq_ix3 y]
  have e := out13_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (y 2)
  rw [layer_eq, padded_eq, first_eq] at e
  have z : y 0 = (0 : Fin 1) := Subsingleton.elim (α := Fin 1) _ _
  have w : y 1 = (0 : Fin 1) := Subsingleton.elim (α := Fin 1) _ _
  rw [z, w]
  exact e

theorem place11 (p : Fin 2048) (q : Fin 512) (h : 2048 * t.val + p.val < 16384) :
    (((cfg0.win 11).blk t).view.emb (ix2 p q) : S16384x512.Idx) = ix2 ⟨2048 * t.val + p.val, h⟩ q := by
  blk_ext [idx t]

theorem place12 (p : Fin 3) (q : Fin 512) : (((cfg0.win 12).blk t).view.emb (ix3 0 p q) : S8x3x512.Idx) = ix3 ⟨t.val, lt8 t⟩ p q := by
  blk_ext [idx t]

theorem place13 (q : Fin 512) : (((cfg0.win 13).blk t).view.emb (ix3 0 0 q) : S8x1x512.Idx) = ix3 ⟨t.val, lt8 t⟩ 0 q := by
  blk_ext [idx t]

/-- The call's first result array after the run. -/
theorem final11 : (dats m 0 c).arrAt 11 (cfgs 0).N
    = spec11 (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) (m ((c : Thread nD τ).loc main_arg1)) (m ((c : Thread nD τ).loc main_arg2))
        (m ((c : Thread nD τ).loc main_arg3)) := by
  refine (dats m 0 c).arrAt_eq_of_covers 11 _ (by decide +kernel) fun t _ y => ?_
  have h8 := lt8 t
  blk_simp
  rw [after0_11]
  idx_vars y
  refine (outs11 m c t _).trans ?_
  refine Eq.trans ?_ (congrArg (spec11 _ _ _ _ _) (place11 t y0 y1 (by omega)).symm)
  have g : (iblk m c 1 t : Vec Ideal S2048x512 .f32) (ix2 y0 y1) = m ((c : Thread nD τ).loc main_arg1) (ix2 ⟨2048 * t.val + y0.val, by omega⟩ y1) := by
    blk_point [iblk, V, idx t]
  have d : (2048 * t.val + y0.val) / 2048 = t.val := by omega
  have r : (2048 * t.val + y0.val) % 2048 = y0.val := by omega
  unfold out spec11
  simp only [ix2_0, ix2_1, d, r, g]

/-- The call's second result array after the run. -/
theorem final12 : (dats m 0 c).arrAt 12 (cfgs 0).N
    = spec12 (m ((c : Thread nD τ).loc main_arg0)) (m ((c : Thread nD τ).loc main_arg2)) := by
  refine (dats m 0 c).arrAt_eq_of_covers 12 _ (by decide +kernel) fun t _ y => ?_
  blk_simp
  rw [after0_12]
  idx_vars y
  obtain rfl : y0 = 0 := Subsingleton.elim _ _
  rw [outs12]
  exact congrArg (spec12 _ _) (place12 t y1 y2).symm

attribute [local irreducible] Layer.hidden

/-- The call's third result array after the run. -/
theorem final13 : (dats m 0 c).arrAt 13 (cfgs 0).N
    = spec13 (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) (m ((c : Thread nD τ).loc main_arg2)) (m ((c : Thread nD τ).loc main_arg3)) := by
  refine (dats m 0 c).arrAt_eq_of_covers 13 _ (by decide +kernel) fun t _ y => ?_
  blk_simp
  rw [after0_13]
  idx_vars y
  obtain rfl : y0 = 0 := Subsingleton.elim _ _
  obtain rfl : y1 = 0 := Subsingleton.elim _ _
  rw [outs13]
  exact congrArg (spec13 _ _ _ _) (place13 t y2).symm

end Cert.LruKernel

end
-- ==== Proof.LruEntry.lean ====
/- The recurrence call's reference before its loop: the decays, the inputs and the first states, from the argument arrays. -/
module

public import proofs.«01_k».proof.Proof.LruKernel
public import proofs.«01_k».proof.Proof.Gen.ReferenceIdeal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruEntry

open Cert.LruKernel Cert.LruMath Cert.LruSpec Cert.ReferenceIdeal Cert.ReferenceIdeal.Value Idealize.ShloMosaic.StableHlo Cert.ReferenceIdeal.Gen

variable (m : (ℓ : Loc nD τ sig) → Buf (Elt Ideal) ℓ)

theorem tile_lt (j : Fin 512) (x : Fin 64) : j.val / 64 * 64 + x.val < 512 := by omega
theorem div_lt (j : Fin 512) : j.val / 64 < 8 := by omega
theorem mod_lt (j : Fin 512) : j.val % 64 < 64 := by omega
theorem back (i : ℕ) (hi : i ≤ 3) (t : Fin 2048) : i + t.val - 3 < 2048 := by omega
theorem back0 (t : Fin 2048) : t.val - 3 < 2048 := by omega
theorem flat_lt (b : Fin 8) (t : Fin 2048) : 2048 * b.val + t.val < 16384 := by omega

/-- A column of the block-diagonal matrix meets only the rows of its own block. -/
theorem sum_diag (w : FVec Ideal S8x64x64 .f32) (f : Fin 512 → EReal) (j : Fin 512) :
    ∑ x : Fin 64, w (ix3 ⟨j.val / 64, div_lt j⟩ x ⟨j.val % 64, mod_lt j⟩) * f ⟨j.val / 64 * 64 + x.val, tile_lt j x⟩ = ∑ k, f k * diag w k j := by
  rw [Fin.sum_univ_tiles 8 64 rfl, Finset.sum_eq_single (⟨j.val / 64, div_lt j⟩ : Fin 8)]
  · refine Finset.sum_congr rfl fun x _ => ?_
    unfold diag
    have h1 : (j.val / 64 * 64 + x.val) / 64 = j.val / 64 := by omega
    have h2 : (j.val / 64 * 64 + x.val) % 64 = x.val := by omega
    simp only [h1, h2, if_true, mul_one]
    exact mul_comm _ _
  · intro g _ hg
    refine Finset.sum_eq_zero fun x _ => ?_
    unfold diag
    have h1 : (g.val * 64 + x.val) / 64 ≠ j.val / 64 := by
      intro h; apply hg; ext; show g.val = j.val / 64; omega
    simp only [h1, if_false, mul_zero]
  · intro h; exact absurd (Finset.mem_univ _) h

theorem fb0 (b : Fin 8) (t : Fin 2048) : 2048 * b.val + (t.val - 3) < 16384 := by omega
theorem fb (i : ℕ) (hi : i ≤ 3) (b : Fin 8) (t : Fin 2048) : 2048 * b.val + (i + t.val - 3) < 16384 := by omega

/-- The convolution at a row, its four taps added one after another. -/
theorem conv_eq (xb : FVec Ideal S16384x512 .f32) (cbuf : FVec Ideal S8x3x512 .f32) (cw : FVec Ideal S4x512 .f32) (cb : FVec Ideal S512 .f32)
    (wa : FVec Ideal S8x64x64 .f32) (ba : FVec Ideal S512 .f32) (wx : FVec Ideal S8x64x64 .f32) (bx lam : FVec Ideal S512 .f32)
    (b : Fin 8) (t : Fin 2048) (q : Fin 512) :
    cb (ix1 q) + ((if h : t.val < 3 then cbuf (ix3 b ⟨t.val, h⟩ q) else xb (ix2 ⟨2048 * b.val + (t.val - 3), fb0 b t⟩ q)) * cw (ix2 0 q)
      + (if h : 1 + t.val < 3 then cbuf (ix3 b ⟨1 + t.val, h⟩ q) else xb (ix2 ⟨2048 * b.val + (1 + t.val - 3), fb 1 (by decide) b t⟩ q)) * cw (ix2 1 q)
      + (if h : 2 + t.val < 3 then cbuf (ix3 b ⟨2 + t.val, h⟩ q) else xb (ix2 ⟨2048 * b.val + (2 + t.val - 3), fb 2 (by decide) b t⟩ q)) * cw (ix2 2 q)
      + xb (ix2 ⟨2048 * b.val + t.val, flat_lt b t⟩ q) * cw (ix2 3 q)) = (layerOf cw cb wa ba wx bx lam).conv (seqOf xb cbuf b) t.val q := by
  have ht := t.isLt
  unfold Layer.conv seqOf layerOf
  dsimp only
  simp only [Nat.add_comm 1 t.val, Nat.add_comm 2 t.val]
  have h0 : t.val - 3 < 2048 := by omega
  have h1 : t.val + 1 - 3 < 2048 := by omega
  have h2 : t.val + 2 - 3 < 2048 := by omega
  have h3 : ¬ (t.val + 3 < 3) := by omega
  simp only [h0, h1, h2, h3, dif_pos, dif_neg, not_false_eq_true, Nat.add_sub_cancel, t.isLt]

/-- The logarithm of the decay, spelt out; the branch for an undefined value is never taken. -/
theorem loga_eq (cw : FVec Ideal S4x512 .f32) (cb : FVec Ideal S512 .f32) (wa : FVec Ideal S8x64x64 .f32) (ba : FVec Ideal S512 .f32) (wx : FVec Ideal S8x64x64 .f32) (bx lam : FVec Ideal S512 .f32) (X : ℕ → Fin 512 → EReal) (t : ℕ) (j : Fin 512) :
    Ideal.ofBits FTy.f32 0xC1000000#32 * Ideal.div 1 (1 + Ideal.exp (-(∑ k, (layerOf cw cb wa ba wx bx lam).conv X t k * diag wa k j + ba (ix1 j))))
      * (if -lam (ix1 j) ≠ -lam (ix1 j) then -lam (ix1 j)
         else max (-lam (ix1 j)) 0 + Ideal.log1p (Ideal.exp (-FloatOps.absf (F := Ideal) (φ := FTy.f32) (-lam (ix1 j))))) = (layerOf cw cb wa ba wx bx lam).loga X t j := by
  rw [if_neg (fun h => h rfl)]
  rfl

/-- The input gate, spelt out. -/
theorem igate_eq (cw : FVec Ideal S4x512 .f32) (cb : FVec Ideal S512 .f32) (wa : FVec Ideal S8x64x64 .f32) (ba : FVec Ideal S512 .f32) (wx : FVec Ideal S8x64x64 .f32) (bx lam : FVec Ideal S512 .f32) (X : ℕ → Fin 512 → EReal) (t : ℕ) (j : Fin 512) :
    Ideal.div 1 (1 + Ideal.exp (-(∑ k, (layerOf cw cb wa ba wx bx lam).conv X t k * diag wx k j + bx (ix1 j)))) = (layerOf cw cb wa ba wx bx lam).igate X t j := rfl

/-- The same at the convolution's row. -/
theorem sum_conv (w : FVec Ideal S8x64x64 .f32) (L : Layer) (X : ℕ → Fin 512 → EReal) (t : ℕ) (j : Fin 512) :
    ∑ x : Fin 64, w (ix3 ⟨j.val / 64, div_lt j⟩ x ⟨j.val % 64, mod_lt j⟩) * L.conv X t ⟨j.val / 64 * 64 + x.val, tile_lt j x⟩ = ∑ k, L.conv X t k * diag w k j :=
  sum_diag w (L.conv X t) j

/-- Rows laid out by sequence and step. -/
theorem split_at (a : FVec Ideal S16384x512 .f32) (b : Fin 8) (t : Fin 2048) (q : Fin 512) :
    shapeCast S8x2048x512 a shapeCasts_S16384x512_S8x2048x512 (ix3 b t q) = a (ix2 ⟨2048 * b.val + t.val, flat_lt b t⟩ q) := by
  pointwise []
  simp only [Nat.mul_comm]

variable (c : Dev nD)

/-- The rows from before are the argument's. -/
theorem upto2 : upto hostOps0 (launchContents m c) 1 (no_index (Proc.devRef .tc main_arg2)) = m ((c : Thread nD τ).loc main_arg2) :=
  (upto_unwritten [main_v0] rfl (by decide) _).trans rfl

/-- The sequences laid out by sequence and step. -/
theorem upto0 (b : Fin 8) (t : Fin 2048) (q : Fin 512) : (upto hostOps0 (launchContents m c) 1 (no_index (Proc.devRef .tc main_v0)) : FVec Ideal S8x2048x512 .f32) (ix3 b t q)
    = (m ((c : Thread nD τ).loc main_arg0) : FVec Ideal S16384x512 .f32) (ix2 ⟨2048 * b.val + t.val, flat_lt b t⟩ q) := by
  have e : upto hostOps0 (launchContents m c) 1 (Proc.devRef .tc main_v0) = fun i => shapeCast S8x2048x512 (m ((c : Thread nD τ).loc main_arg0) : FVec Ideal S16384x512 .f32) shapeCasts_S16384x512_S8x2048x512 i :=
    (upto_last_write (i := 0) (op := StableHlo.reshape main_arg0 main_v0 (rfl : (.f32 : EltTy) = .f32) shapeCasts_S16384x512_S8x2048x512) [] rfl rfl (by decide) _).trans
      (reshape_result _ _ _ _ _ _ _)
  rw [e]
  exact split_at _ b t q

/-- The layer of the arguments. -/
abbrev lay : Layer := layerOf (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))

/-- Sequence `b` of the arguments. -/
abbrev seq (b : Fin 8) : ℕ → Fin 512 → EReal := seqOf (m ((c : Thread nD τ).loc main_arg0)) (m ((c : Thread nD τ).loc main_arg2)) b

set_option maxHeartbeats 400000 in
/-- The decays, before the loop. -/
theorem entry0 : entryContents preI m c (Proc.devRef .tc main_v78_0) = fun y => (lay m c).decay (seq m c (y 1)) (y 0).val (y 2) := by
  simp only [entryContents, afterL_cons, afterL_nil]
  after_reads_simp
  simp only [TRef.ofBuf, TRef.toBuf, cast_eq, id_eq]
  funext y
  idx_vars y
  pointwise []
  simp only [upto2, upto0]
  simp only [conv_eq (m ((c : Thread nD τ).loc main_arg0)) (m ((c : Thread nD τ).loc main_arg2)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))]
  rw [sum_diag (launchContents m c (Proc.devRef .tc main_arg6)) (Layer.conv (lay m c) (seq m c y1) y0.val) y2, loga_eq (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))]
  rfl

set_option maxHeartbeats 400000 in
/-- The inputs, before the loop. -/
theorem entry1 : entryContents preI m c (Proc.devRef .tc main_v78_1) = fun y => (lay m c).input (seq m c (y 1)) (y 0).val (y 2) := by
  simp only [entryContents, afterL_cons, afterL_nil]
  after_reads_simp
  simp only [TRef.ofBuf, TRef.toBuf, cast_eq, id_eq]
  funext y
  idx_vars y
  pointwise []
  simp only [upto2, upto0]
  simp only [conv_eq (m ((c : Thread nD τ).loc main_arg0)) (m ((c : Thread nD τ).loc main_arg2)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))]
  simp only [sum_conv]
  simp only [loga_eq (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)), igate_eq (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10))]
  rfl

/-- The states, before the loop. -/
theorem entry3 : entryContents preI m c (Proc.devRef .tc main_v78_3) = fun y => (m ((c : Thread nD τ).loc main_arg3) : FVec Ideal S8x1x512 .f32) (ix3 (y 0) 0 (y 1)) := by
  simp only [entryContents, afterL_cons, afterL_nil]
  after_reads_simp
  simp only [id_eq]
  funext y
  idx_vars y
  pointwise []

end Cert.LruEntry

end
-- ==== Proof.LruRef.lean ====
/- The recurrence call's reference: its loop step by step, and the three arrays it returns. -/
module

public import proofs.«01_k».proof.Proof.LruEntry
public import Idealize.ShloMosaic.Lib.WordCmp
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruRef

open Cert.LruKernel Cert.LruMath Cert.LruSpec Cert.LruEntry Cert.ReferenceIdeal Cert.ReferenceIdeal.Value Idealize.ShloMosaic.StableHlo Cert.ReferenceIdeal.Gen Idealize.ShloMosaic.WordCmp

variable (m : (ℓ : Loc nD τ sig) → Buf (Elt Ideal) ℓ)

theorem fits (k : ℕ) (hk : k < 2048) : S2048x8x512.Slices ![k, 0, 0] S1x8x512 :=
  ⟨rfl, fun a => by
    fin_cases a
    · show k + 1 ≤ 2048; omega
    · show 0 + 8 ≤ 8; omega
    · show 0 + 512 ≤ 512; omega⟩

/-- The step's number as a start. -/
theorem start_eq (V : IVec S_ 32) (k : ℕ) (hk : k < 2048) (hc : V = fun _ => Scf.iv 0#32 1#32 k) : ∀ a : Fin 3,
    ((![V, constantI S_ 32 0#32, constantI S_ 32 0#32] : Fin 3 → IVec S_ 32) a (Shape.Idx.first h_S_)).toInt = ((![k, 0, 0] : Fin 3 → ℕ) a : Int) := by
  subst hc
  intro a
  fin_cases a
  · show (Scf.iv 0#32 1#32 k).toInt = (k : Int)
    have : Scf.iv 0#32 1#32 k = BitVec.ofNat 32 k := by simp [Scf.iv]
    rw [this]
    exact toInt_ofNat_of_lt (by omega)
  · rfl
  · rfl

/-- The step's row of a table. -/
theorem slice_at (x : FVec Ideal S2048x8x512 .f32) (V : IVec S_ 32) (k : ℕ) (hk : k < 2048) (hc : V = fun _ => Scf.iv 0#32 1#32 k) (b : Fin 8) (j : Fin 512) :
    shapeCast S8x512 (Host.dynamicSlice S1x8x512 x (fun a => ((![V, constantI S_ 32 0#32, constantI S_ 32 0#32] : Fin 3 → IVec S_ 32) a (Shape.Idx.first h_S_)).toInt)
      sliceFits_S2048x8x512_S1x8x512) shapeCasts_S1x8x512_S8x512 (ix2 b j) = x (ix3 ⟨k, hk⟩ b j) := by
  rw [dynamicSlice_eq_extract _ _ _ _ ![k, 0, 0] (fits k hk) (start_eq V k hk hc)]
  pointwise []

/-- The table with the step's row replaced. -/
theorem update_at (x : FVec Ideal S2048x8x512 .f32) (u : FVec Ideal S8x512 .f32) (V : IVec S_ 32) (k : ℕ) (hk : k < 2048) (hc : V = fun _ => Scf.iv 0#32 1#32 k)
    (t : Fin 2048) (b : Fin 8) (j : Fin 512) :
    Host.dynamicUpdateSlice x (broadcastInDim S1x8x512 ![1, 2] bcast_S8x512_S1x8x512_1_2 u)
      (fun a => ((![V, constantI S_ 32 0#32, constantI S_ 32 0#32] : Fin 3 → IVec S_ 32) a (Shape.Idx.first h_S_)).toInt)
      updateFits_S2048x8x512_S1x8x512 (ix3 t b j) = if t.val = k then u (ix2 b j) else x (ix3 t b j) := by
  rw [dynamicUpdateSlice_eq_update _ _ _ _ ![k, 0, 0] (fits k hk) (start_eq V k hk hc), updateSlice_apply]
  by_cases h : t.val = k
  · rw [if_pos h, dif_pos]
    · pointwise []
    · intro a
      fin_cases a
      · show k ≤ t.val ∧ t.val < k + 1; omega
      · show 0 ≤ b.val ∧ b.val < 0 + 8; omega
      · show 0 ≤ j.val ∧ j.val < 0 + 512; omega
  · rw [if_neg h, dif_neg]
    intro hin
    have h0 : k ≤ t.val ∧ t.val < k + 1 := hin 0
    omega

attribute [local irreducible] Layer.hidden

/-- One step more. -/
theorem hidden_succ (L : Layer) (X : ℕ → Fin 512 → EReal) (h : Fin 512 → EReal) (j : Fin 512) (n : ℕ) :
    L.hidden X h j (n + 1) = L.decay X n j * L.hidden X h j n + L.input X n j := by
  unfold Layer.hidden
  rfl

variable (c : Dev nD)

/-- The first states. -/
abbrev first (b : Fin 8) (j : Fin 512) : EReal := (m ((c : Thread nD τ).loc main_arg3) : FVec Ideal S8x1x512 .f32) (ix3 b 0 j)

/-- The loop's buffers before step `k`. -/
structure At (k : ℕ) (V : Valuation τ sig (Elt Ideal)) : Prop where
  a : V (Proc.devRef .tc main_v78_0) = fun y => (lay m c).decay (seq m c (y 1)) (y 0).val (y 2)
  b : V (Proc.devRef .tc main_v78_1) = fun y => (lay m c).input (seq m c (y 1)) (y 0).val (y 2)
  ctr : V (Proc.devRef .tc main_v78_2) = fun _ => Scf.iv 0#32 1#32 k
  h : V (Proc.devRef .tc main_v78_3) = fun y => (lay m c).hidden (seq m c (y 0)) (first m c (y 0)) (y 1) k
  hs : ∀ (t : Fin 2048) (b : Fin 8) (j : Fin 512), t.val < k →
    (V (Proc.devRef .tc main_v78_4) : FVec Ideal S2048x8x512 .f32) (ix3 t b j) = (lay m c).hidden (seq m c b) (first m c b) j (t.val + 1)

/-- The state a step makes. -/
theorem made {k : ℕ} {V : Valuation τ sig (Elt Ideal)} (hk : k < 2048) (w : At m c k V) :
    res_main_while0b_v103 V = fun y => (lay m c).hidden (seq m c (y 0)) (first m c (y 0)) (y 1) (k + 1) := by
  funext y
  rw [eq_ix2 y]
  refine Eq.trans ?_ (hidden_succ _ _ _ _ _).symm
  unfold res_main_while0b_v103
  refine congrArg₂ (· + ·) (congrArg₂ (· * ·) ?_ ?_) ?_
  · refine (slice_at _ _ k hk w.ctr _ _).trans ?_
    rw [w.a]
    rfl
  · rw [w.h]
  · refine (slice_at _ _ k hk w.ctr _ _).trans ?_
    rw [w.b]
    rfl

/-- One step keeps the description. -/
theorem At.step {k : ℕ} {V : Valuation τ sig (Elt Ideal)} (hk : k < 2048) (w : At m c k V) : At m c (k + 1) (STEP V) where
  a := (STEP_main_v78_0 V).trans w.a
  b := (STEP_main_v78_1 V).trans w.b
  ctr := by
    rw [STEP_main_v78_2, step_main_v78_2, w.ctr]
    funext i
    exact (Scf.iv_succ 0#32 1#32 k).symm
  h := by
    rw [STEP_main_v78_3, step_main_v78_3, made m c hk w]
    rfl
  hs t b j ht := by
    rw [STEP_main_v78_4, step_main_v78_4]
    refine (update_at _ _ _ k hk w.ctr t b j).trans ?_
    by_cases e : t.val = k
    · rw [if_pos e, made m c hk w, e]
      rfl
    · rw [if_neg e]
      exact w.hs t b j (by omega)

/-- Before the loop. -/
theorem at_zero : At m c 0 (entryContents preI m c) where
  a := entry0 m c
  b := entry1 m c
  ctr := by rw [ctr_entry, Scf.iv_zero]
  h := by
    rw [entry3]
    funext y
    unfold Layer.hidden
    rfl
  hs t b j ht := absurd ht (Nat.not_lt_zero _)

/-- Before every step. -/
theorem at_step : ∀ k, k ≤ 2048 → At m c k (STEP^[k] (entryContents preI m c))
  | 0, _ => by
    rw [Function.iterate_zero, id_eq]
    exact at_zero m c
  | k + 1, hk => by
    rw [Function.iterate_succ_apply']
    exact (at_step k (by omega)).step m c (by omega)

theorem lay_eq : lay m c = (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := rfl

theorem seq_lt (y : Fin 16384) : y.val / 2048 < 8 := by omega
theorem step_lt (y : Fin 16384) : y.val % 2048 < 2048 := by omega

/-- Rows laid out one sequence after another, from a table by step and sequence. -/
theorem joined_at (a : FVec Ideal S2048x8x512 .f32) (p : Fin 16384) (q : Fin 512) :
    shapeCast S16384x512 (transpose S8x2048x512 [1, 0, 2] a transposes_S2048x8x512_S8x2048x512_1_0_2) shapeCasts_S8x2048x512_S16384x512 (ix2 p q)
      = a (ix3 ⟨p.val % 2048, step_lt p⟩ ⟨p.val / 2048, seq_lt p⟩ q) := by
  pointwise []

/-- The activation, its product grouped from the right. -/
theorem gelu_eq (a : FVec Ideal S16384x512 .f32) (p : Fin 16384) (q : Fin 512) :
    (mulf a (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf a (mulf (broadcastInDim S16384x512 ![] bcast_S_S16384x512 (constant S_ .f32 0x3D372713#32)) (mulf (mulf a a) a))))))) : FVec Ideal S16384x512 .f32) (ix2 p q)
      = gelu (a (ix2 p q)) := by
  pointwise [gelu]
  rw [← mul_assoc, mul_comm (a (ix2 p q)) (Ideal.ofBits FTy.f32 0x3F000000#32)]

/-- The first result. -/
theorem result98 : out_main_v98 (STEP^[2048] (entryContents preI m c)) = spec11 (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) (m ((c : Thread nD τ).loc main_arg1)) (m ((c : Thread nD τ).loc main_arg2)) (m ((c : Thread nD τ).loc main_arg3)) := by
  have w := at_step m c 2048 le_rfl
  have h1 := iter_main_arg1 m c 2048
  generalize STEP^[2048] (entryContents preI m c) = V at w h1 ⊢
  unfold out_main_v98
  rw [h1]
  funext y
  rw [eq_ix2 y]
  refine congrArg₂ (· * ·) ?_ (gelu_eq _ (y 0) (y 1))
  refine (joined_at _ (y 0) (y 1)).trans ?_
  exact w.hs _ _ _ (step_lt (y 0))

/-- A state's row, with an axis of one put in. -/
theorem row_at (a : FVec Ideal S8x512 .f32) (b : Fin 8) (j : Fin 512) :
    shapeCast S8x1x512 a shapeCasts_S8x512_S8x1x512 (ix3 b 0 j) = a (ix2 b j) := by
  pointwise []

/-- The third result. -/
theorem result99 : out_main_v99 (STEP^[2048] (entryContents preI m c)) = spec13 (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) (m ((c : Thread nD τ).loc main_arg2)) (m ((c : Thread nD τ).loc main_arg3)) := by
  have w := at_step m c 2048 le_rfl
  generalize STEP^[2048] (entryContents preI m c) = V at w ⊢
  unfold out_main_v99
  rw [w.h]
  funext y
  rw [eq_ix3 y]
  have z : y 1 = (0 : Fin 1) := Subsingleton.elim (α := Fin 1) _ _
  rw [z]
  exact row_at _ (y 0) (y 2)

/-- The second result. -/
theorem result97 : out_main_v97 (STEP^[2048] (entryContents preI m c)) = spec12 (m ((c : Thread nD τ).loc main_arg0)) (m ((c : Thread nD τ).loc main_arg2)) := by
  have h0 := iter_main_arg0 m c 2048
  have h2 := iter_main_arg2 m c 2048
  generalize STEP^[2048] (entryContents preI m c) = V at h0 h2 ⊢
  unfold out_main_v97
  rw [h0, h2]
  generalize (m ((c : Thread nD τ).loc main_arg0)) = a0
  generalize (m ((c : Thread nD τ).loc main_arg2)) = a2
  funext y
  idx_vars y
  pointwise [spec12, seqOf]
  have h3 : 2048 + y1.val - 3 < 2048 := by omega
  simp only [h3, dif_pos, Nat.mul_comm 2048]

end Cert.LruRef

end
-- ==== Proof.LruClaim.lean ====
/- The recurrence call against its reference: equal results over the extended reals. -/
module

public import proofs.«01_k».proof.Proof.LruRef
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LruClaim

open Cert.LruKernel

set_option maxHeartbeats 2000000 in
/-- The kernel and its reference compute the same three arrays. -/
theorem algebraic : Cert.algebraic_KernelIdeal_ReferenceIdeal := by
  intro m g m' g' hpre hagree
  refine ⟨fun c => spec11 (layerOf (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)),
    fun c => spec12 (m ((c : Thread Cert.KernelIdeal.nD Cert.KernelIdeal.τ).loc Cert.KernelIdeal.main_arg0)) (m ((c : Thread Cert.KernelIdeal.nD Cert.KernelIdeal.τ).loc Cert.KernelIdeal.main_arg2)),
    fun c => spec13 (layerOf (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))) (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg3)), ?_, ?_⟩
  · refine θ_run_mono (Cert.KernelIdeal.Value.run_blocks m g) fun r hr c => ?_
    obtain ⟨k0, k1, k2, rest⟩ := hr c
    exact ⟨k0.trans (final11 m c), k1.trans (final12 m c), k2.trans (final13 m c), rest⟩
  · refine θ_run_mono (Cert.ReferenceIdeal.Value.run m' g') fun r hr c => ?_
    obtain ⟨k0, k1, k2, rest⟩ := hr c
    obtain ⟨e0, e1, e2, e3, e4, e5, e6, e7, e8, e9, e10⟩ := hagree c
    have r0 := k0.trans (Cert.LruRef.result98 m' c)
    have r1 := k1.trans (Cert.LruRef.result97 m' c)
    have r2 := k2.trans (Cert.LruRef.result99 m' c)
    rw [e0, e1, e2, e3, e4, e5, e6, e7, e8, e9, e10] at r0
    rw [e0, e2] at r1
    rw [e0, e2, e3, e4, e5, e6, e7, e8, e9, e10] at r2
    exact ⟨r0, r1, r2, rest⟩

end Cert.LruClaim

end
-- ==== Proof.StickMath.lean ====
/- Stick-breaking attention over the extended reals: the weight of a key, the sums over the later keys, and the two ways of
   writing the weight's logarithm. -/
module

public import proofs.«01_k».proof.Proof.LruMath
public import Idealize.ShloMosaic.Lib.Pointwise

@[expose] public section

noncomputable section

open Idealize.ShloMosaic

namespace Cert.StickMath

open Cert.LruMath (softplus softplus_nonneg)

theorem softplus_coe (r : ℝ) : softplus (r : EReal) = ((max r 0 + Real.log (1 + Real.exp (-|r|)) : ℝ) : EReal) := by
  have p : 0 < 1 + Real.exp (-|r|) := by positivity
  have a : max (r : EReal) (-(r : EReal)) = ((|r| : ℝ) : EReal) := by
    rw [← EReal.coe_neg, abs_eq_max_neg]; exact (EReal.coe_strictMono.monotone.map_max).symm
  have l : Ideal.log1p (((Real.exp (-|r|) : ℝ)) : EReal) = ((Real.log (1 + Real.exp (-|r|)) : ℝ) : EReal) := by
    unfold Ideal.log1p
    have e : (1 : EReal) + ((Real.exp (-|r|) : ℝ) : EReal) = ((1 + Real.exp (-|r|) : ℝ) : EReal) := by push_cast; rfl
    rw [e]
    show (if 1 + Real.exp (-|r|) ≤ 0 then ⊥ else (Real.log (1 + Real.exp (-|r|)) : EReal)) = _
    rw [if_neg (by linarith)]
  unfold softplus
  rw [a, ← EReal.coe_neg, Ideal.exp_coe, l, ← EReal.coe_zero, ← EReal.coe_strictMono.monotone.map_max, ← EReal.coe_add]

theorem softplus_top : softplus ⊤ = ⊤ := by
  unfold softplus
  rw [max_eq_left le_top, max_eq_left le_top]
  refine EReal.top_add_of_ne_bot (ne_of_gt (lt_of_lt_of_le (EReal.bot_lt_coe 0) ?_))
  exact LruMath.log1p_nonneg (LruMath.exp_nonneg _)

theorem softplus_bot : softplus ⊥ = 0 := by
  unfold softplus
  simp [Ideal.log1p]
  show (if (1 : ℝ) ≤ 0 then ⊥ else ((Real.log 1 : ℝ) : EReal)) = 0
  rw [if_neg (by norm_num), Real.log_one]; rfl

/-- A score less its softplus is the negated softplus of the negated score. -/
theorem sub_softplus (r : ℝ) : (r : EReal) - softplus r = -softplus (-(r : EReal)) := by
  rw [← EReal.coe_neg, softplus_coe, softplus_coe, abs_neg, ← EReal.coe_sub, ← EReal.coe_neg]
  congr 1
  rcases le_total 0 r with h | h
  · rw [max_eq_left h, max_eq_right (by linarith)]; ring
  · rw [max_eq_right h, max_eq_left (by linarith)]; ring

/-- The weight's logarithm in the two forms: with the score and its softplus, and the sum `R` over the later keys; or with
    the logistic's logarithm, and the sum from the key itself less the key's own part. -/
theorem log_weight (x R : EReal) (hR : R ≤ 0) :
    x - softplus x + R = -softplus (-x) + (-softplus x + R - -softplus x) := by
  induction x using EReal.rec with
  | top => rw [softplus_top, EReal.neg_top, softplus_bot]; simp
  | bot => rw [softplus_bot, EReal.neg_bot, softplus_top]; simp
  | coe r =>
    rw [sub_softplus]
    congr 1
    induction R using EReal.rec with
    | top => simp at hR
    | bot => simp
    | coe s =>
      rw [softplus_coe, ← EReal.coe_neg, ← EReal.coe_add, ← EReal.coe_sub]
      congr 1; ring

/-- The logarithm of what key `k` leaves over to the keys before it, for the query at position `Q`. -/
def left (s : ℕ → EReal) (Q k : ℕ) : EReal := if k < Q then -softplus (s k) else 0

theorem left_nonpos (s : ℕ → EReal) (Q k : ℕ) : left s Q k ≤ 0 := by
  unfold left
  split
  · exact EReal.neg_le_zero.2 (softplus_nonneg _)
  · exact le_rfl

/-- The sum over the keys from `k` on. -/
def from_ (s : ℕ → EReal) (Q k : ℕ) : EReal := ∑ j ∈ Finset.Ico k 2048, left s Q j

theorem from_nonpos (s : ℕ → EReal) (Q k : ℕ) : from_ s Q k ≤ 0 := Finset.sum_nonpos fun j _ => left_nonpos s Q j

/-- The weight of key `k` for the query at position `Q`: nothing from its own position on. -/
def weight (s : ℕ → EReal) (Q k : ℕ) : EReal :=
  if k < Q then Ideal.exp (-softplus (-(s k)) + (from_ s Q k - left s Q k)) else 0

/-- The strictly later keys of a tile, picked by a zero-one factor. -/
def after (r j : Fin 256) : EReal := if r < j then 1 else 0

/-- What rounding takes off a number that is not `⊤`, put back: nothing changes. -/
theorem split_sum (f : Fin 256 → EReal) (hf : ∀ j, f j ≤ 0) (r : Fin 256) :
    (∑ j, f j * after r j) + ∑ j, (f j - f j) * after r j = ∑ j, f j * after r j := by
  rw [← Finset.sum_add_distrib]
  refine Finset.sum_congr rfl fun j _ => ?_
  unfold after
  split
  · rw [mul_one, mul_one]
    have h := hf j
    generalize f j = x at h
    induction x using EReal.rec with
    | top => simp at h
    | bot => simp
    | coe s => rw [← EReal.coe_sub, ← EReal.coe_add]; simp
  · simp

/-- A tile's sum over its strictly later keys, and the sum over the keys after the tile: the sum over the keys after `B + r`. -/
theorem later_sum (f : ℕ → EReal) (B : ℕ) (hB : B + 256 ≤ 2048) (r : Fin 256) :
    (∑ j : Fin 256, f (B + j.val) * after r j) + ∑ j ∈ Finset.Ico (B + 256) 2048, f j = ∑ j ∈ Finset.Ico (B + r.val + 1) 2048, f j := by
  rw [← Finset.sum_Ico_consecutive f (show B + r.val + 1 ≤ B + 256 by omega) hB]
  refine congrArg (· + _) ?_
  have e : ∀ j : Fin 256, f (B + j.val) * after r j = (fun n => if r.val < n then f (B + n) else 0) j.val := by
    intro j
    unfold after
    by_cases h : r < j
    · rw [if_pos h, mul_one]; exact (if_pos h).symm
    · rw [if_neg h, mul_zero]; exact (if_neg h).symm
  rw [Finset.sum_congr rfl fun j _ => e j, Fin.sum_univ_eq_sum_range (fun n => if r.val < n then f (B + n) else 0) 256,
    Finset.range_eq_Ico, ← Finset.sum_Ico_consecutive _ (Nat.zero_le (r.val + 1)) (show r.val + 1 ≤ 256 by omega)]
  rw [Finset.sum_eq_zero (s := Finset.Ico 0 (r.val + 1)) fun n hn => if_neg (by have := (Finset.mem_Ico.1 hn).2; omega), zero_add]
  rw [Finset.sum_congr rfl fun n hn => if_pos (show r.val < n by have := (Finset.mem_Ico.1 hn).1; omega)]
  rw [Finset.sum_Ico_add (fun n => f n) (r.val + 1) 256 B]
  exact Finset.sum_congr (congrArg₂ Finset.Ico (by omega) (by omega)) fun _ _ => rfl

/-- The weight of a tile's key, from the tile's sum over its later keys and the sum `c` over the keys after the tile. -/
theorem tile_weight (s : ℕ → EReal) (Q B : ℕ) (hB : B + 256 ≤ 2048) (r : Fin 256) (hr : B + r.val < Q) :
    Ideal.exp (s (B + r.val) - softplus (s (B + r.val))
      + ((∑ j : Fin 256, left s Q (B + j.val) * after r j) + ∑ j : Fin 256, (left s Q (B + j.val) - left s Q (B + j.val)) * after r j)
      + from_ s Q (B + 256)) = weight s Q (B + r.val) := by
  have hs : from_ s Q (B + r.val) = left s Q (B + r.val) + from_ s Q (B + r.val + 1) := by
    unfold from_
    exact Finset.sum_eq_sum_Ico_succ_bot (by omega) _
  unfold weight
  rw [if_pos hr, hs, split_sum (fun j => left s Q (B + j.val)) (fun j => left_nonpos s Q _) r, add_assoc]
  have h := later_sum (left s Q) B hB r
  unfold from_ at *
  rw [h]
  have e : left s Q (B + r.val) = -softplus (s (B + r.val)) := if_pos hr
  rw [e]
  exact congrArg Ideal.exp (log_weight _ _ (from_nonpos s Q _))

/-- A sum over a tile's keys and the keys after the tile. -/
theorem tile_sum (f : ℕ → EReal) (B : ℕ) (hB : B + 256 ≤ 2048) :
    (∑ k ∈ Finset.Ico (B + 256) 2048, f k) + ∑ j : Fin 256, f (B + j.val) = ∑ k ∈ Finset.Ico B 2048, f k := by
  rw [← Finset.sum_Ico_consecutive f (show B ≤ B + 256 by omega) hB, add_comm]
  refine congrArg (· + _) ?_
  rw [Fin.sum_univ_eq_sum_range (fun n => f (B + n)) 256, Finset.range_eq_Ico, Finset.sum_Ico_add (fun n => f n) 0 256 B]
  exact Finset.sum_congr (congrArg₂ Finset.Ico (by omega) (by omega)) fun _ _ => rfl

theorem left_zero (s : ℕ → EReal) (Q k : ℕ) (h : Q ≤ k) : left s Q k = 0 := if_neg (by omega)

theorem weight_zero (s : ℕ → EReal) (Q k : ℕ) (h : Q ≤ k) : weight s Q k = 0 := if_neg (by omega)

theorem from_zero (s : ℕ → EReal) (Q k : ℕ) (h : Q ≤ k) : from_ s Q k = 0 :=
  Finset.sum_eq_zero fun j hj => left_zero s Q j (h.trans (Finset.mem_Ico.1 hj).1)

/-- The weighted values of the keys from `k` on. -/
def mixed (s v : ℕ → EReal) (Q k : ℕ) : EReal := ∑ j ∈ Finset.Ico k 2048, weight s Q j * v j

theorem mixed_zero (s v : ℕ → EReal) (Q k : ℕ) (h : Q ≤ k) : mixed s v Q k = 0 :=
  Finset.sum_eq_zero fun j hj => by rw [weight_zero s Q j (h.trans (Finset.mem_Ico.1 hj).1), zero_mul]

theorem tile_from (s : ℕ → EReal) (Q B : ℕ) (hB : B + 256 ≤ 2048) :
    from_ s Q (B + 256) + ∑ j : Fin 256, left s Q (B + j.val) = from_ s Q B := tile_sum (left s Q) B hB

theorem tile_mixed (s v : ℕ → EReal) (Q B : ℕ) (hB : B + 256 ≤ 2048) :
    mixed s v Q (B + 256) + ∑ j : Fin 256, weight s Q (B + j.val) * v (B + j.val) = mixed s v Q B :=
  tile_sum (fun k => weight s Q k * v k) B hB

/-- A finite nonnegative factor goes out of a sum. -/
theorem sum_scale {ι : Type} (t : Finset ι) (f : ι → EReal) (a : EReal) (h0 : 0 ≤ a) (ht : a ≠ ⊤) : ∑ d ∈ t, f d * a = (∑ d ∈ t, f d) * a := by
  classical
  induction t using Finset.induction_on with
  | empty => simp
  | insert x t hx ih => rw [Finset.sum_insert hx, Finset.sum_insert hx, ih, EReal.right_distrib_of_nonneg_of_ne_top h0 ht]

end Cert.StickMath

end
-- ==== Proof.StickTile.lean ====
/- Stick-breaking attention: one tile of keys in the kernel. A tile's scores give the logarithms of what its keys leave over, the
   tile's weights, and the two carried values. -/
module

public import proofs.«01_k».proof.Proof.StickMath
public import proofs.«01_k».proof.Proof.Gen.Kernel5Ideal.Value
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StickTile

open Cert.Kernel5Ideal Cert.Kernel5Ideal.Gen Cert.StickMath
open Cert.LruMath (softplus)

/-- A softplus as the kernel writes it. -/
theorem softplus_eq (z : EReal) :
    max z (Ideal.ofBits .f32 0x00000000#32) + Ideal.log1p (Ideal.exp (Ideal.ofBits .f32 0x00000000#32 - max z (-z))) = softplus z := by
  simp [softplus, Ideal.ofBits, Ideal.ieee]

/-- Two small numbers compared as words. -/
theorem word_lt (p q : ℕ) (hp : p < 256) (hq : q < 256) :
    IntOp.cmpi CmpIPredicate.slt (BitVec.ofNat 32 p) (BitVec.ofNat 32 q) = BitVec.ofBool (decide (p < q)) :=
  WordCmp.cmpi_slt_ofNat (by omega) (by omega)

theorem zero_bits : Ideal.ofBits .f32 0x00000000#32 = 0 := by simp [Ideal.ofBits, Ideal.ieee]

theorem one_bits : Ideal.ofBits .f32 0x3F800000#32 = 1 := by simp [Ideal.ofBits, Ideal.ieee, -EReal.coe_mul, -EReal.coe_neg]; norm_num

/-- A tile's scores: query row `r` with the tile's key `j`. -/
def score (q : FVec Ideal S256x128 .bf16) (K : FVec Ideal S256x128 .f32) (r j : Fin 256) : EReal := ∑ l : Fin 128, q (ix2 r l) * K (ix2 j l)

/-- What the kernel adds to the carried result: the tile's weighted values, from the scores `z`, the logarithms `f` and the carried sum. -/
def gain (z f : Fin 256 → EReal) (c : EReal) (p : Fin 256 → Bool) (v : Fin 256 → EReal) : EReal :=
  ∑ j : Fin 256, (if p j then Ideal.exp (z j - softplus (z j)
    + ((∑ i : Fin 256, f i * after j i) + ∑ i : Fin 256, (f i - f i) * after j i) + c) else 0) * v j

theorem pay34_at (j r : Fin 256) : (k0_pay34 : FVec Ideal S256x256 .bf16) (ix2 j r) = after r j := by
  pointwise [k0_pay34]
  rw [WordCmp.cmpi_sgt_ofNat (by omega) (by omega), WordCmp.select_ofBool]
  simp only [decide_eq_true_eq, after, Fin.lt_def]

variable (q : FVec Ideal S256x128 .bf16) (K V : FVec Ideal S256x128 .f32) (c : FVec Ideal S256x1 .f32) (a : FVec Ideal S256x128 .f32)
  (r j : Fin 256) (l : Fin 128)

theorem pay14_at : k0_pay14 q K (ix2 r j) = score q K r j := by
  unfold score
  pointwise [k0_pay14, k0_pay12]

theorem pay15_at : k0_pay15 q K (ix2 r j) = softplus (score q K r j) := by
  rw [← pay14_at, ← softplus_eq]
  pointwise [k0_pay15]
  rfl

theorem pay16_at : k0_pay16 q K (ix2 r j) = -softplus (score q K r j) := by
  rw [← pay15_at, ← zero_sub, ← zero_bits]
  pointwise [k0_pay16]

theorem pay18_at : k0_pay18 q c K (ix2 r 0) = c (ix2 r 0) + ∑ j, -softplus (score q K r j) := by
  simp only [← pay16_at]
  pointwise [k0_pay18]

theorem pay17_at : k0_pay17 k0_pay34 q c a K V (ix2 r l)
    = a (ix2 r l) + gain (score q K r) (fun j => -softplus (score q K r j)) (c (ix2 r 0)) (fun _ => true) (fun j => V (ix2 j l)) := by
  pointwise [k0_pay17, k0_pay13]
  simp only [pay34_at, pay16_at, pay15_at, pay14_at, gain, if_true]

theorem pay19_at : k0_pay19 q K (ix2 r j) = score q K r j := by
  unfold score
  pointwise [k0_pay19, k0_pay12]

theorem pay3_at : k0_pay3 (k0_pay20 q K) (k0_pay21 q K) k0_pay22 (ix2 r j) = softplus (score q K r j) := by
  rw [← pay19_at, ← softplus_eq]
  pointwise [k0_pay3, k0_pay20, k0_pay21, k0_pay22]
  rfl

theorem pay4_at : k0_pay4 (k0_pay20 q K) (k0_pay21 q K) k0_pay22 (ix2 r j) = -softplus (score q K r j) := by
  rw [← pay3_at, ← zero_sub, ← zero_bits]
  pointwise [k0_pay4]

theorem pay6_at : k0_pay6 c (k0_pay20 q K) (k0_pay21 q K) k0_pay22 (ix2 r 0) = c (ix2 r 0) + ∑ j, -softplus (score q K r j) := by
  simp only [← pay4_at]
  pointwise [k0_pay6]

theorem pay5_at : k0_pay5 k0_pay34 c a (k0_pay13 V) (k0_pay19 q K) (k0_pay20 q K) (k0_pay21 q K) k0_pay22 (ix2 r l)
    = a (ix2 r l) + gain (score q K r) (fun j => -softplus (score q K r j)) (c (ix2 r 0)) (fun _ => true) (fun j => V (ix2 j l)) := by
  pointwise [k0_pay5, k0_pay13]
  simp only [pay34_at, pay4_at, pay3_at, pay19_at, gain, if_true]

/-- The own tile's mask: the keys before the query. -/
theorem pay40_at : k0_pay40 (ix2 r j) = BitVec.ofBool (decide (j < r)) := by
  pointwise [k0_pay40]
  exact word_lt _ _ (by omega) (by omega)

theorem pay41_at (x : FVec Ideal S256x128 .f32) : k0_pay41 (F := Ideal) x K (ix2 r j) = score (k0_pay37 x) K r j := by
  unfold score
  pointwise [k0_pay41, k0_pay35]

theorem pay42_at (x : FVec Ideal S256x128 .f32) : k0_pay42 (F := Ideal) x K (ix2 r j) = softplus (score (k0_pay37 x) K r j) := by
  rw [← pay41_at, ← softplus_eq]
  pointwise [k0_pay42]
  rfl

theorem pay43_at (x : FVec Ideal S256x128 .f32) : k0_pay43 (F := Ideal) x K (ix2 r j) = if j < r then -softplus (score (k0_pay37 x) K r j) else 0 := by
  pointwise [k0_pay43]
  rw [pay40_at, pay42_at, WordCmp.select_ofBool]
  simp only [decide_eq_true_eq, zero_sub]

theorem pay45_at (x : FVec Ideal S256x128 .f32) :
    k0_pay45 (F := Ideal) k0_pay38 (k0_pay43 x K) (ix2 r 0) = ∑ j, if j < r then -softplus (score (k0_pay37 x) K r j) else 0 := by
  simp only [← pay43_at]
  pointwise [k0_pay45, k0_pay38]

theorem pay44_at (x : FVec Ideal S256x128 .f32) :
    k0_pay44 (F := Ideal) k0_pay34 (k0_pay36 V) k0_pay38 k0_pay39 k0_pay40 (k0_pay41 x K) (k0_pay42 x K) (k0_pay43 x K) (ix2 r l)
      = gain (score (k0_pay37 x) K r) (fun j => if j < r then -softplus (score (k0_pay37 x) K r j) else 0) 0 (fun j => decide (j < r)) (fun j => V (ix2 j l)) := by
  pointwise [k0_pay44, k0_pay38, k0_pay39, k0_pay36]
  simp only [pay34_at, pay40_at, pay41_at, pay42_at, pay43_at, gain, WordCmp.select_ofBool, ite_mul, zero_mul, add_zero]

/-- Lanes along a row, and the numbers of a tile's rows and columns. -/
abbrev lanes : IVec S256x128 32 := kernelRun0_A.sl.v0

abbrev rows : IVec S256x256 32 := kernelRun0_A.sl.v1

abbrev cols : IVec S256x256 32 := kernelRun0_A.sl.v2

theorem pay49_at : k0_pay49 rows cols (ix2 r j) = BitVec.ofBool (decide (j < r)) := by
  rw [← pay40_at]
  pointwise [k0_pay49, k0_pay40, kernelRun0_A.sl.v1, kernelRun0_A.sl.v2]

theorem pay50_at (x : FVec Ideal S256x128 .f32) : k0_pay50 (F := Ideal) lanes x (k0_pay35 K) (ix2 r j) = score (k0_pay46 lanes x) K r j := by
  unfold score
  pointwise [k0_pay50, k0_pay35]

theorem pay51_at (x : FVec Ideal S256x128 .f32) : k0_pay51 (F := Ideal) lanes x (k0_pay35 K) (ix2 r j) = softplus (score (k0_pay46 lanes x) K r j) := by
  rw [← pay50_at, ← softplus_eq]
  pointwise [k0_pay51]
  rfl

theorem pay52_at (x : FVec Ideal S256x128 .f32) : k0_pay52 (F := Ideal) lanes rows cols x (k0_pay35 K) (ix2 r j) = if j < r then -softplus (score (k0_pay46 lanes x) K r j) else 0 := by
  pointwise [k0_pay52]
  rw [pay49_at, pay51_at, WordCmp.select_ofBool]
  simp only [decide_eq_true_eq, zero_sub]

theorem pay2_at (x : FVec Ideal S256x128 .f32) :
    k0_pay2 (F := Ideal) k0_pay47 (k0_pay52 lanes rows cols x (k0_pay35 K)) (ix2 r 0) = ∑ j, if j < r then -softplus (score (k0_pay46 lanes x) K r j) else 0 := by
  simp only [← pay52_at]
  pointwise [k0_pay2, k0_pay47]

theorem pay1_at (x : FVec Ideal S256x128 .f32) :
    k0_pay1 (F := Ideal) k0_pay34 (k0_pay36 V) k0_pay47 k0_pay48 (k0_pay49 rows cols) (k0_pay50 lanes x (k0_pay35 K)) (k0_pay51 lanes x (k0_pay35 K))
        (k0_pay52 lanes rows cols x (k0_pay35 K)) (k0_pay53 lanes rows cols x (k0_pay35 K)) (k0_pay54 lanes rows cols x (k0_pay35 K)) (ix2 r l)
      = gain (score (k0_pay46 lanes x) K r) (fun j => if j < r then -softplus (score (k0_pay46 lanes x) K r j) else 0) 0 (fun j => decide (j < r)) (fun j => V (ix2 j l)) := by
  pointwise [k0_pay1, k0_pay47, k0_pay48, k0_pay36, k0_pay53, k0_pay54]
  simp only [pay34_at, pay49_at, pay50_at, pay51_at, pay52_at, gain, WordCmp.select_ofBool, ite_mul, zero_mul, add_zero]

theorem pay37_at (x : FVec Ideal S256x128 .f32) : k0_pay37 (F := Ideal) x (ix2 r l) = if l.val < 64 then x (ix2 r l) * Ideal.ofBits .f32 0x3E000000#32 else 0 := by
  pointwise [k0_pay37]
  rw [word_lt l.val 64 (by omega) (by omega), WordCmp.select_ofBool]
  simp only [decide_eq_true_eq]

theorem pay46_at (x : FVec Ideal S256x128 .f32) : k0_pay46 (F := Ideal) lanes x (ix2 r l) = if 64 ≤ l.val then x (ix2 r l) * Ideal.ofBits .f32 0x3E000000#32 else 0 := by
  pointwise [k0_pay46, kernelRun0_A.sl.v0]
  rw [WordCmp.cmpi_sge_ofNat (by omega) (by omega), WordCmp.select_ofBool]
  simp only [decide_eq_true_eq]

theorem pay11_at (x y : FVec Ideal S256x128 .f32) : k0_pay11 (F := Ideal) lanes x y (ix2 r l) = if l.val < 64 then x (ix2 r l) else y (ix2 r l) := by
  pointwise [k0_pay11, kernelRun0_A.sl.v0]
  rw [word_lt l.val 64 (by omega) (by omega), WordCmp.select_ofBool]
  simp only [decide_eq_true_eq]

theorem scale_nonneg : 0 ≤ Ideal.ofBits .f32 0x3E000000#32 := by
  simp [Ideal.ofBits, Ideal.ieee, -EReal.coe_mul, -EReal.coe_neg]

theorem scale_ne_top : Ideal.ofBits .f32 0x3E000000#32 ≠ ⊤ := by
  simp [Ideal.ofBits, Ideal.ieee, -EReal.coe_mul, -EReal.coe_neg]

/-- A head's lane. -/
def lane (h : Fin 2) (d : Fin 64) : Fin 128 := ⟨64 * h.val + d.val, by omega⟩

/-- The first head's scores: the other lanes are zero. -/
theorem score_first (x : FVec Ideal S256x128 .f32) :
    score (k0_pay37 x) K r j = (∑ d : Fin 64, x (ix2 r (lane 0 d)) * K (ix2 j (lane 0 d))) * Ideal.ofBits .f32 0x3E000000#32 := by
  rw [← sum_scale _ _ _ scale_nonneg scale_ne_top]
  unfold score
  simp only [pay37_at]
  refine (Fin.sum_univ_add (a := 64) (b := 64) _).trans ?_
  refine Eq.trans (congrArg₂ (· + ·) (Finset.sum_congr rfl fun d _ => ?_) (Finset.sum_eq_zero fun d _ => ?_)) (add_zero _)
  · have e : (Fin.castAdd 64 d : Fin 128) = lane 0 d := Fin.ext (by show d.val = 64 * 0 + d.val; omega)
    rw [e, if_pos (by show 64 * 0 + d.val < 64; omega)]
    exact mul_right_comm _ _ _
  · rw [if_neg (by show ¬ 64 + d.val < 64; omega), zero_mul]

/-- The second head's scores: the other lanes are zero. -/
theorem score_second (x : FVec Ideal S256x128 .f32) :
    score (k0_pay46 lanes x) K r j = (∑ d : Fin 64, x (ix2 r (lane 1 d)) * K (ix2 j (lane 1 d))) * Ideal.ofBits .f32 0x3E000000#32 := by
  rw [← sum_scale _ _ _ scale_nonneg scale_ne_top]
  unfold score
  simp only [pay46_at]
  refine (Fin.sum_univ_add (a := 64) (b := 64) _).trans ?_
  refine Eq.trans (congrArg₂ (· + ·) (Finset.sum_eq_zero fun d _ => ?_) (Finset.sum_congr rfl fun d _ => ?_)) (zero_add _)
  · rw [if_neg (by show ¬ 64 ≤ d.val; omega), zero_mul]
  · have e : (Fin.natAdd 64 d : Fin 128) = lane 1 d := Fin.ext (by show 64 + d.val = 64 * 1 + d.val; omega)
    rw [e, if_pos (by show 64 ≤ 64 * 1 + d.val; omega)]
    exact mul_right_comm _ _ _

/-- What a tile adds is its keys' weighted values. -/
theorem gain_tile (s v : ℕ → EReal) (Q B : ℕ) (hB : B + 256 ≤ 2048) (z f u : Fin 256 → EReal) (c : EReal) (p : Fin 256 → Bool)
    (hz : ∀ j, z j = s (B + j.val)) (hf : ∀ j, f j = left s Q (B + j.val)) (hu : ∀ j, u j = v (B + j.val)) (hc : c = from_ s Q (B + 256))
    (hp : ∀ j, p j = decide (B + j.val < Q)) : gain z f c p u = ∑ j : Fin 256, weight s Q (B + j.val) * v (B + j.val) := by
  unfold gain
  refine Finset.sum_congr rfl fun j _ => ?_
  rw [hu, hp]
  refine congrArg (· * _) ?_
  by_cases h : B + j.val < Q
  · rw [if_pos (decide_eq_true h), hz, hc]
    simp only [hf]
    exact tile_weight s Q B hB j h
  · rw [if_neg (by simpa using h), weight_zero s Q _ (by omega)]

end Cert.StickTile

end
-- ==== Proof.StickLoop.lean ====
/- Stick-breaking attention: the kernel's block. The own tile starts the two carried values of each head, the loop takes the
   earlier tiles from the nearest to the first, and the block's result is the whole weighted sum. -/
module

public import Idealize.ShloMosaic.Lib.WholeRead
public import Idealize.ShloMosaic.Lib.WritesUnit
public import proofs.«01_k».proof.Proof.StickTile
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StickLoop

open Cert.Kernel5Ideal Cert.Kernel5Ideal.Gen Cert.StickMath Cert.StickTile
open Cert.LruMath (softplus)

/-- The score of key `k` for query row `r` of a block, by head. -/
def keyScore (x0 : FVec Ideal S256x128 .f32) (x1 : FVec Ideal S2048x128 .f32) (h : Fin 2) (r : Fin 256) (k : ℕ) : EReal :=
  if hk : k < 2048 then (∑ d : Fin 64, x0 (ix2 r (lane h d)) * x1 (ix2 ⟨k, hk⟩ (lane h d))) * Ideal.ofBits .f32 0x3E000000#32 else 0

/-- A lane of the value of key `k`. -/
def keyValue (x2 : FVec Ideal S2048x128 .f32) (l : Fin 128) (k : ℕ) : EReal := if hk : k < 2048 then x2 (ix2 ⟨k, hk⟩ l) else 0

/-- The rectangle of a rank-two buffer whose place is a row and a column, at an index. -/
theorem place_at {n a b : ℕ} (off : Fin 2 → ℕ) (h : ∀ i, off i + (![n, b] : Fin 2 → ℕ) i ≤ (⟨2, ![a, b]⟩ : Shape).size i) (p : ℕ) (e : off = ![p, 0]) (x : Fin n) (y : Fin b)
    (hp : p + x.val < a) : (Rect.unit (s := ⟨2, ![a, b]⟩) off ![n, b] h).idx (ix2 x y) = ix2 ⟨p + x.val, hp⟩ y := by
  subst e
  funext i
  apply Fin.ext
  rw [Rect.idx_unit_val]
  match i with
  | 0 => rfl
  | 1 => exact Nat.zero_add _

/-- Rows of a whole buffer, read at an index. -/
theorem rows_at {n a b : ℕ} {e : EltTy} (arg : Memref sig .tc .vmem ⟨2, ![a, b]⟩ e) (harg : arg.IsWhole) (X : Vec Ideal ⟨2, ![a, b]⟩ e)
    (off : Fin 2 → ℕ) (h) (p : ℕ) (ho : off = ![p, 0]) (x : Fin n) (y : Fin b) (hp : p + x.val < a) :
    View.readAt (Elt Ideal) arg.view (Rect.unit (s := ⟨2, ![a, b]⟩) off ![n, b] h).toLoadRect (harg.unread X) (ix2 x y) = X (ix2 ⟨p + x.val, hp⟩ y) := by
  rw [View.readAt_apply]
  exact (congrArg _ (place_at off h p ho x y hp)).trans (congrFun (harg.read_unread X) _)

theorem trips_word : ∀ b : Fin 8, Scf.trips 0#32 (Scalar.addi 0#32 (Scalar.muli (Scalar.divsi (Scalar.subi (BitVec.ofNat 32 b.val) 0#32) 1#32) 1#32)) 1#32 = b.val := by
  decide +kernel

theorem trips_rest : ∀ b : Fin 8, Scf.trips (Scalar.addi 0#32 (Scalar.muli (Scalar.divsi (Scalar.subi (BitVec.ofNat 32 b.val) 0#32) 1#32) 1#32))
    (Scalar.addi 0#32 (Scalar.subi (BitVec.ofNat 32 b.val) 0#32)) 1#32 = 0 := by
  decide +kernel

theorem off_word : ∀ b k : Fin 8, k.val < b.val →
    (Scalar.indexCast (Scalar.muli (Scalar.subi (Scalar.subi (BitVec.ofNat 32 b.val) 1#32) (Scf.iv 0#32 1#32 k.val)) 256#32) : Index).toNat = 256 * (b.val - (k.val + 1)) := by
  decide +kernel

theorem own_word : ∀ b : Fin 8, (Scalar.indexCast (Scalar.muli (BitVec.ofNat 32 b.val) 256#32) : Index).toNat = 256 * b.val := by
  decide +kernel

theorem trips_eq (i : grid0.Coords) : (k0_t1_loop i).trips = (i 2).val := trips_word (i 2)

theorem off1_eq (i : grid0.Coords) : k0_off1 i = ![256 * (i 2).val, 0] := congrArg (fun n : ℕ => (![n, 0] : Fin 2 → ℕ)) (own_word (i 2))

theorem off2_eq (i : grid0.Coords) (k : Fin (k0_t1_loop i).trips) : k0_off2 i k = ![256 * ((i 2).val - (k.val + 1)), 0] := by
  have hk : k.val < (i 2).val := lt_of_lt_of_eq k.isLt (trips_eq i)
  have hi : (i 2).val < 8 := (i 2).isLt
  exact congrArg (fun n : ℕ => (![n, 0] : Fin 2 → ℕ)) (off_word (i 2) ⟨k.val, by omega⟩ hk)

variable (c : Dev nD) (i : grid0.Coords)
  (arg3 : Memref sig .tc .vmem S256x128 .f32) (harg3 : arg3.IsWhole)
  (arg4 : Memref sig .tc .vmem S2048x128 .f32) (harg4 : arg4.IsWhole)
  (arg5 : Memref sig .tc .vmem S2048x128 .f32) (harg5 : arg5.IsWhole)
  (arg6 : Memref sig .tc .vmem S256x128 .f32) (harg6 : arg6.IsWhole)
  (x0 : FVec Ideal S256x128 .f32) (x1 x2 : FVec Ideal S2048x128 .f32)

/-- What the loop carries. -/
abbrev Carry : Type := FVec Ideal S256x1 .f32 × FVec Ideal S256x128 .f32 × FVec Ideal S256x1 .f32 × FVec Ideal S256x128 .f32

/-- The carried values once the keys from `B` on are taken, for the queries of tile `b`. -/
def Taken (b B : ℕ) (s : Carry) : Prop :=
  ∀ r : Fin 256,
    (s.1 (ix2 r 0) = from_ (keyScore x0 x1 0 r) (256 * b + r.val) B
      ∧ ∀ l, s.2.1 (ix2 r l) = mixed (keyScore x0 x1 0 r) (keyValue x2 l) (256 * b + r.val) B)
    ∧ (s.2.2.1 (ix2 r 0) = from_ (keyScore x0 x1 1 r) (256 * b + r.val) B
      ∧ ∀ l, s.2.2.2 (ix2 r l) = mixed (keyScore x0 x1 1 r) (keyValue x2 l) (256 * b + r.val) B)

/-- One head's step: the tile's logarithms and weighted values, added to the carried ones. -/
theorem step (s v : ℕ → EReal) (Q B : ℕ) (hB : B + 256 ≤ 2048) (hQ : B + 256 ≤ Q) (z u : Fin 256 → EReal) (c a : EReal)
    (hz : ∀ j, z j = s (B + j.val)) (hu : ∀ j, u j = v (B + j.val)) (hc : c = from_ s Q (B + 256)) (ha : a = mixed s v Q (B + 256)) :
    c + ∑ j, -softplus (z j) = from_ s Q B ∧ a + gain z (fun j => -softplus (z j)) c (fun _ => true) u = mixed s v Q B := by
  have hf : ∀ j : Fin 256, -softplus (z j) = left s Q (B + j.val) := fun j => by rw [hz]; exact (if_pos (by omega)).symm
  constructor
  · rw [hc, ← tile_from s Q B hB]
    exact congrArg _ (Finset.sum_congr rfl fun j _ => hf j)
  · rw [gain_tile s v Q B hB z _ u c _ hz hf hu hc fun j => (decide_eq_true (by omega)).symm, ha]
    exact tile_mixed s v Q B hB

/-- One head's start: the own tile, masked. -/
theorem start (s v : ℕ → EReal) (b : ℕ) (hb : b < 8) (r : Fin 256) (z u : Fin 256 → EReal)
    (hz : ∀ j, z j = s (256 * b + j.val)) (hu : ∀ j, u j = v (256 * b + j.val)) :
    (∑ j, if j < r then -softplus (z j) else 0) = from_ s (256 * b + r.val) (256 * b)
      ∧ gain z (fun j => if j < r then -softplus (z j) else 0) 0 (fun j => decide (j < r)) u = mixed s v (256 * b + r.val) (256 * b) := by
  have hB : 256 * b + 256 ≤ 2048 := by omega
  have hf : ∀ j : Fin 256, (if j < r then -softplus (z j) else 0) = left s (256 * b + r.val) (256 * b + j.val) := fun j => by
    rw [hz]
    unfold left
    by_cases h : j < r
    · rw [if_pos h, if_pos (Nat.add_lt_add_left h _)]
    · rw [if_neg h, if_neg fun h' => h (Nat.lt_of_add_lt_add_left h')]
  constructor
  · rw [← tile_from s _ _ hB, from_zero s _ _ (by omega), zero_add]
    exact Finset.sum_congr rfl fun j _ => hf j
  · rw [gain_tile s v (256 * b + r.val) (256 * b) hB z _ u 0 _ hz hf hu (from_zero s _ _ (by omega)).symm fun j => decide_eq_decide.2 (show j < r ↔ _ from ⟨fun h => Nat.add_lt_add_left h _, fun h => Nat.lt_of_add_lt_add_left h⟩), ← tile_mixed s v _ _ hB,
      mixed_zero s v _ _ (by omega), zero_add]

/-- The queries' block as read. -/
theorem query_at (r : Fin 256) (l : Fin 128) (h) :
    View.readAt (Elt Ideal) arg3.view (Rect.unit (s := S256x128) ![0, 0] S256x128.size h).toLoadRect (harg3.unread x0) (ix2 r l) = x0 (ix2 r l) := by
  refine (rows_at arg3 harg3 x0 _ h 0 rfl r l (by omega)).trans ?_
  exact congrArg x0 (congrArg₂ ix2 (Fin.ext (Nat.zero_add _)) rfl)

theorem query_eq (h) : View.readAt (Elt Ideal) arg3.view (Rect.unit (s := S256x128) ![0, 0] S256x128.size h).toLoadRect (harg3.unread x0) = x0 := by
  funext y
  rw [eq_ix2 y]
  exact query_at arg3 harg3 x0 _ _ h

section Tile

variable (K V : FVec Ideal S256x128 .f32) (B : ℕ) (hB : B + 256 ≤ 2048)
  (hK : ∀ (j : Fin 256) (l : Fin 128) (hj : B + j.val < 2048), K (ix2 j l) = x1 (ix2 ⟨B + j.val, hj⟩ l))
  (hV : ∀ (j : Fin 256) (l : Fin 128) (hj : B + j.val < 2048), V (ix2 j l) = x2 (ix2 ⟨B + j.val, hj⟩ l))

include hB hK in
theorem first_score (r j : Fin 256) : score (k0_pay37 x0) K r j = keyScore x0 x1 0 r (B + j.val) := by
  unfold keyScore
  rw [dif_pos (show B + j.val < 2048 by omega), score_first]
  exact congrArg (· * _) (Finset.sum_congr rfl fun d _ => congrArg _ (hK j _ _))

include hB hK in
theorem second_score (r j : Fin 256) : score (k0_pay46 lanes x0) K r j = keyScore x0 x1 1 r (B + j.val) := by
  unfold keyScore
  rw [dif_pos (show B + j.val < 2048 by omega), score_second]
  exact congrArg (· * _) (Finset.sum_congr rfl fun d _ => congrArg _ (hK j _ _))

include hB hV in
theorem value_at (l : Fin 128) (j : Fin 256) : V (ix2 j l) = keyValue x2 l (B + j.val) := by
  unfold keyValue
  rw [dif_pos (show B + j.val < 2048 by omega)]
  exact hV j l _

include hB hK hV in
/-- The own tile's start. -/
theorem start_taken (b : ℕ) (hb : b < 8) (e : B = 256 * b) :
    Taken x0 x1 x2 b (256 * b) (k0_pay45 k0_pay38 (k0_pay43 x0 K),
      k0_pay44 k0_pay34 (k0_pay36 V) k0_pay38 k0_pay39 k0_pay40 (k0_pay41 x0 K) (k0_pay42 x0 K) (k0_pay43 x0 K),
      k0_pay2 k0_pay47 (k0_pay52 lanes rows cols x0 (k0_pay35 K)),
      k0_pay1 k0_pay34 (k0_pay36 V) k0_pay47 k0_pay48 (k0_pay49 rows cols) (k0_pay50 lanes x0 (k0_pay35 K)) (k0_pay51 lanes x0 (k0_pay35 K))
        (k0_pay52 lanes rows cols x0 (k0_pay35 K)) (k0_pay53 lanes rows cols x0 (k0_pay35 K)) (k0_pay54 lanes rows cols x0 (k0_pay35 K))) := by
  subst e
  intro r
  have f := fun l => start (keyScore x0 x1 0 r) (keyValue x2 l) b hb r (score (k0_pay37 x0) K r) (fun j => V (ix2 j l))
    (first_score x0 x1 K _ hB hK r) (value_at x2 V _ hB hV l)
  have g := fun l => start (keyScore x0 x1 1 r) (keyValue x2 l) b hb r (score (k0_pay46 lanes x0) K r) (fun j => V (ix2 j l))
    (second_score x0 x1 K _ hB hK r) (value_at x2 V _ hB hV l)
  exact ⟨⟨(pay45_at K r x0).trans (f 0).1, fun l => (pay44_at K V r l x0).trans (f l).2⟩,
    ⟨(pay2_at K r x0).trans (g 0).1, fun l => (pay1_at K V r l x0).trans (g l).2⟩⟩

include hB hK hV in
/-- One trip: an earlier tile. -/
theorem trip_taken (b : ℕ) (hb : B + 256 ≤ 256 * b) (s : Carry) (hs : Taken x0 x1 x2 b (B + 256) s) :
    Taken x0 x1 x2 b B (k0_pay18 (k0_pay37 x0) s.1 K, k0_pay17 k0_pay34 (k0_pay37 x0) s.1 s.2.1 K V,
      k0_pay6 s.2.2.1 (k0_pay20 (k0_pay46 lanes x0) K) (k0_pay21 (k0_pay46 lanes x0) K) k0_pay22,
      k0_pay5 k0_pay34 s.2.2.1 s.2.2.2 (k0_pay13 V) (k0_pay19 (k0_pay46 lanes x0) K) (k0_pay20 (k0_pay46 lanes x0) K)
        (k0_pay21 (k0_pay46 lanes x0) K) k0_pay22) := by
  intro r
  obtain ⟨⟨s1, s2⟩, s3, s4⟩ := hs r
  have f := fun l => step (keyScore x0 x1 0 r) (keyValue x2 l) (256 * b + r.val) B hB (by omega) (score (k0_pay37 x0) K r) (fun j => V (ix2 j l)) _ _
    (first_score x0 x1 K _ hB hK r) (value_at x2 V _ hB hV l) s1 (s2 l)
  have g := fun l => step (keyScore x0 x1 1 r) (keyValue x2 l) (256 * b + r.val) B hB (by omega) (score (k0_pay46 lanes x0) K r) (fun j => V (ix2 j l)) _ _
    (second_score x0 x1 K _ hB hK r) (value_at x2 V _ hB hV l) s3 (s4 l)
  exact ⟨⟨(pay18_at _ K _ r).trans (f 0).1, fun l => (pay17_at _ K V _ _ r l).trans (f l).2⟩,
    ⟨(pay6_at _ K _ r).trans (g 0).1, fun l => (pay5_at _ K V _ _ r l).trans (g l).2⟩⟩

end Tile

/-- The loop's carried values. -/
def loop (v23 v66 : FVec Ideal S256x128 .bf16) (init : Carry) (n : ℕ) : Carry :=
  st_k0_t1 (F := Ideal) Variants.none c none i arg3 harg3 arg4 harg4 arg5 harg5 arg6 harg6 (BitVec.ofNat 32 (i 2).val) k0_pay34 v23 v66
    (harg4.unread x1) (harg5.unread x2) init n

theorem loop_taken (v23 v66 : FVec Ideal S256x128 .bf16) (h23 : v23 = k0_pay37 x0) (h66 : v66 = k0_pay46 lanes x0) (init : Carry)
    (h0 : Taken x0 x1 x2 (i 2).val (256 * (i 2).val) init) (n : ℕ) (hn : n ≤ (i 2).val) :
    Taken x0 x1 x2 (i 2).val (256 * ((i 2).val - n)) (loop c i arg3 harg3 arg4 harg4 arg5 harg5 arg6 harg6 x1 x2 v23 v66 init n) := by
  subst h23 h66
  induction n with
  | zero => exact h0
  | succ n ih =>
    have hi : (i 2).val < 8 := (i 2).isLt
    have hk : n < (k0_t1_loop i).trips := lt_of_lt_of_eq hn (trips_eq i).symm
    have hB : 256 * ((i 2).val - (n + 1)) + 256 ≤ 2048 := by omega
    have e : 256 * ((i 2).val - n) = 256 * ((i 2).val - (n + 1)) + 256 := by omega
    have ih := ih (by omega)
    rw [e] at ih
    have t := trip_taken x0 x1 x2 _ _ _ hB
      (fun j l hj => rows_at arg4 harg4 x1 _ (k0_off2_inb i ⟨n, hk⟩) _ (off2_eq i ⟨n, hk⟩) j l hj)
      (fun j l hj => rows_at arg5 harg5 x2 _ (k0_off2_inb i ⟨n, hk⟩) _ (off2_eq i ⟨n, hk⟩) j l hj) (i 2).val (by omega) _ ih
    refine cast (congrArg (Taken x0 x1 x2 (i 2).val _) ?_) t
    refine Eq.symm ((st_k0_t1_succ (F := Ideal) Variants.none c none i arg3 harg3 arg4 harg4 arg5 harg5 arg6 harg6 (BitVec.ofNat 32 (i 2).val) k0_pay34 (k0_pay37 x0) (k0_pay46 lanes x0)
      (harg4.unread x1) (harg5.unread x2) init ⟨n, hk⟩).trans ?_)
    unfold tripR_k0_t1 trip_k0_t1
    rfl

/-- One store over a whole rank-two block, read back. -/
theorem stored_at {p q : ℕ} {e : EltTy} {κ : Kind} {sp : Space} (v : View sig κ sp ⟨2, ![p, q]⟩ e) (f) (h) (w : Vec Ideal ⟨2, ![p, q]⟩ e)
    (y : (⟨2, ![p, q]⟩ : Shape).Idx) :
    v.read (Elt Ideal) (v.writes (Elt Ideal) f [⟨Rect.unit (s := ⟨2, ![p, q]⟩) ![0, 0] ![p, q] h, w⟩]) y = w y := by
  refine View.read_writes_cons_unit_of_mem v f h w [] y y rfl fun a => ?_
  match a with
  | 0 => exact (Nat.zero_add _).symm
  | 1 => exact (Nat.zero_add _).symm

/-- The values carried into the loop are the own tile's. -/
theorem init_taken : Taken x0 x1 x2 (i 2).val (256 * (i 2).val) (kernelRun0_A.sl.r_8 (F := Ideal) c i arg3 harg3 arg4 harg4 x0 x1,
    kernelRun0_A.sl.r_7 (F := Ideal) c i arg3 harg3 arg4 harg4 arg5 harg5 x0 x1 x2,
    k0_pay2 k0_pay47 (kernelRun0_A.sl.r_12 (F := Ideal) c i arg3 harg3 arg4 harg4 x0 x1),
    k0_pay1 k0_pay34 (kernelRun0_A.sl.r_2 (F := Ideal) c i arg5 harg5 x2) k0_pay47 k0_pay48 (k0_pay49 rows cols)
      (kernelRun0_A.sl.r_10 (F := Ideal) c i arg3 harg3 arg4 harg4 x0 x1) (kernelRun0_A.sl.r_11 (F := Ideal) c i arg3 harg3 arg4 harg4 x0 x1)
      (kernelRun0_A.sl.r_12 (F := Ideal) c i arg3 harg3 arg4 harg4 x0 x1) (kernelRun0_A.sl.r_13 (F := Ideal) c i arg3 harg3 arg4 harg4 x0 x1)
      (kernelRun0_A.sl.r_14 (F := Ideal) c i arg3 harg3 arg4 harg4 x0 x1)) := by
  have hi : (i 2).val < 8 := (i 2).isLt
  have a := start_taken x0 x1 x2 _ _ (256 * (i 2).val) (by omega)
    (fun j l hj => rows_at arg4 harg4 x1 _ (k0_off1_inb i) _ (off1_eq i) j l hj)
    (fun j l hj => rows_at arg5 harg5 x2 _ (k0_off1_inb i) _ (off1_eq i) j l hj) (i 2).val hi rfl
  have q := query_eq arg3 harg3 x0 inb_S256x128_S256x128_0_0
  unfold kernelRun0_A.sl.r_8 kernelRun0_A.sl.r_7 kernelRun0_A.sl.r_6 kernelRun0_A.sl.r_5 kernelRun0_A.sl.r_4 kernelRun0_A.sl.r_2 kernelRun0_A.sl.r_10
    kernelRun0_A.sl.r_11 kernelRun0_A.sl.r_12 kernelRun0_A.sl.r_13 kernelRun0_A.sl.r_14 kernelRun0_A.sl.r_1 kernelRun0_A.sl.r
  rw [q]
  exact a

/-- The block's result: every query's weighted sum, each half of the lanes with its own head's weights. -/
theorem out_at (r : Fin 256) (l : Fin 128) : out0_A_3 (F := Ideal) c i arg3 harg3 arg4 harg4 arg5 harg5 arg6 harg6 x0 x1 x2 (ix2 r l)
    = mixed (keyScore x0 x1 (if l.val < 64 then 0 else 1) r) (keyValue x2 l) (256 * (i 2).val + r.val) 0 := by
  have hi : (i 2).val < 8 := (i 2).isLt
  have q := query_eq arg3 harg3 x0 inb_S256x128_S256x128_0_0
  have r0 : kernelRun0_A.sl.r (F := Ideal) c arg3 harg3 x0 = x0 := q
  have r3 : kernelRun0_A.sl.r_3 (F := Ideal) c arg3 harg3 x0 = k0_pay37 x0 := congrArg k0_pay37 q
  have r9 : kernelRun0_A.sl.r_9 (F := Ideal) c arg3 harg3 x0 = k0_pay46 lanes x0 := congrArg (k0_pay46 lanes) q
  have t := loop_taken c i arg3 harg3 arg4 harg4 arg5 harg5 arg6 harg6 x0 x1 x2 _ _ r3 r9 _ (init_taken c i arg3 harg3 arg4 harg4 arg5 harg5 x0 x1 x2) (i 2).val le_rfl r
  rw [Nat.sub_self] at t
  unfold out0_A_3 kernelRun0_A
  dsimp only
  rw [trips_rest (i 2), trips_word (i 2)]
  refine (stored_at VO0_3 _ _ _ _).trans ?_
  refine (pay11_at r l _ _).trans ?_
  split
  · exact t.1.2 l
  · exact t.2.2 l

end Cert.StickLoop

end
-- ==== Proof.StickSpec.lean ====
/- Stick-breaking attention: what the call computes of its argument arrays. -/
module

public import proofs.«01_k».proof.Proof.StickMath
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.StickSpec

open Cert.StickMath

/-- An array of eight sequences of 2048 rows of eight heads of 64 lanes. -/
abbrev Rows := FVec Ideal ⟨2, ![16384, 512]⟩ .f32

/-- Row `t` of sequence `b`. -/
def row (b : Fin 8) (t : Fin 2048) : Fin 16384 := ⟨2048 * b.val + t.val, by omega⟩

/-- Lane `d` of head `h`. -/
def lane (h : Fin 8) (d : Fin 64) : Fin 512 := ⟨64 * h.val + d.val, by omega⟩

/-- The score of key `t` for query `Q` of sequence `b`, head `h`. -/
def score (q k : Rows) (b h : Fin 8) (Q : Fin 2048) (t : ℕ) : EReal :=
  if ht : t < 2048 then (∑ d : Fin 64, q (ix2 (row b Q) (lane h d)) * k (ix2 (row b ⟨t, ht⟩) (lane h d))) * Ideal.ofBits .f32 0x3E000000#32 else 0

/-- Lane `l` of the value of key `t` of sequence `b`. -/
def value (v : Rows) (b : Fin 8) (l : Fin 512) (t : ℕ) : EReal := if ht : t < 2048 then v (ix2 (row b ⟨t, ht⟩) l) else 0

/-- The sequence, the place in it, and the head of a row and a lane. -/
def seqOf (y : Fin 16384) : Fin 8 := ⟨y.val / 2048, by omega⟩

def placeOf (y : Fin 16384) : Fin 2048 := ⟨y.val % 2048, by omega⟩

def headOf (l : Fin 512) : Fin 8 := ⟨l.val / 64, by omega⟩

/-- The call's result at a row and a lane: the values of the sequence's earlier rows, weighted. -/
def result (q k v : Rows) (y : Fin 16384) (l : Fin 512) : EReal :=
  mixed (score q k (seqOf y) (headOf l) (placeOf y)) (value v (seqOf y) l) (placeOf y).val 0

/-- The call's result. -/
def spec (q k v : Rows) : Rows := fun y => result q k v (y 0) (y 1)

end Cert.StickSpec

end
-- ==== Proof.StickKernel.lean ====
/- Stick-breaking attention: the array the call leaves, from the argument arrays. -/
module

public import proofs.«01_k».proof.Proof.StickLoop
public import proofs.«01_k».proof.Proof.StickSpec
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StickKernel

open Cert.Kernel5Ideal Cert.Kernel5Ideal.Gen Cert.StickMath Cert.StickLoop Cert.StickSpec

variable (m : (ℓ : Loc nD τ sig) → Buf (Elt Ideal) ℓ)

/-- The windows' block indices at every grid point. -/
theorem idx : ∀ t : Fin cfg0.N, win0_0.index t = ![t.val / 32 * 8 + t.val % 8, t.val / 8 % 4] ∧ win0_1.index t = ![t.val / 32, t.val / 8 % 4]
    ∧ win0_2.index t = ![t.val / 32, t.val / 8 % 4] ∧ win0_3.index t = ![t.val / 32 * 8 + t.val % 8, t.val / 8 % 4] :=
  (by decide +kernel : ∀ t : Fin grid0.N, _)

theorem lt256 : ∀ t : Fin cfg0.N, t.val < 256 := (by decide +kernel : ∀ t : Fin grid0.N, t.val < 256)

theorem coord : ∀ t : Fin cfg0.N, (grid0.coords t 2).val = t.val % 8 := (by decide +kernel : ∀ t : Fin grid0.N, (grid0.coords t 2).val = t.val % 8)

variable (c : Dev nD) (t : Fin cfg0.N)

/-- A row of the point's query block. -/
def top (r : Fin 256) : Fin 16384 := ⟨256 * (t.val / 32 * 8 + t.val % 8) + r.val, by have := lt256 t; omega⟩

/-- A row of the point's key block. -/
def key (k : Fin 2048) : Fin 16384 := ⟨2048 * (t.val / 32) + k.val, by have := lt256 t; omega⟩

/-- A lane of the point's blocks. -/
def wide (l : Fin 128) : Fin 512 := ⟨128 * (t.val / 8 % 4) + l.val, by omega⟩

theorem query_blk (r : Fin 256) (l : Fin 128) : (iblk m c 0 t : Vec Ideal S256x128 .f32) (ix2 r l) = (m ((c : Thread nD τ).loc main_arg0)) (ix2 (top t r) (wide t l)) := by
  have h8 := lt256 t
  unfold top wide
  blk_point [iblk, V, idx t]

theorem key_blk (k : Fin 2048) (l : Fin 128) : (iblk m c 1 t : Vec Ideal S2048x128 .f32) (ix2 k l) = (m ((c : Thread nD τ).loc main_arg1)) (ix2 (key t k) (wide t l)) := by
  have h8 := lt256 t
  unfold key wide
  blk_point [iblk, V, idx t]

theorem value_blk (k : Fin 2048) (l : Fin 128) : (iblk m c 2 t : Vec Ideal S2048x128 .f32) (ix2 k l) = (m ((c : Thread nD τ).loc main_arg2)) (ix2 (key t k) (wide t l)) := by
  have h8 := lt256 t
  unfold key wide
  blk_point [iblk, V, idx t]

theorem place3 (r : Fin 256) (l : Fin 128) : (((cfg0.win 3).blk t).view.emb (ix2 r l) : S16384x512.Idx) = ix2 (top t r) (wide t l) := by
  have h8 := lt256 t
  unfold top wide
  blk_ext [idx t]

theorem row_top (r : Fin 256) : row (seqOf (top t r)) (placeOf (top t r)) = top t r :=
  Fin.ext (show 2048 * ((top t r).val / 2048) + (top t r).val % 2048 = (top t r).val by omega)

theorem row_key (r : Fin 256) (k : Fin 2048) : row (seqOf (top t r)) k = key t k := by
  have h8 := lt256 t
  refine Fin.ext (show 2048 * ((256 * (t.val / 32 * 8 + t.val % 8) + r.val) / 2048) + k.val = 2048 * (t.val / 32) + k.val by omega)

theorem lane_wide (l : Fin 128) (d : Fin 64) : StickSpec.lane (headOf (wide t l)) d = wide t (StickTile.lane (if l.val < 64 then 0 else 1) d) := by
  have e : (headOf (wide t l)).val = 2 * (t.val / 8 % 4) + l.val / 64 := show (128 * (t.val / 8 % 4) + l.val) / 64 = _ by omega
  refine Fin.ext (show 64 * (headOf (wide t l)).val + d.val = 128 * (t.val / 8 % 4) + (64 * (if l.val < 64 then 0 else 1 : Fin 2).val + d.val) from ?_)
  rw [e]
  split
  · show _ = 128 * (t.val / 8 % 4) + (64 * 0 + d.val)
    omega
  · show _ = 128 * (t.val / 8 % 4) + (64 * 1 + d.val)
    omega

theorem place_top (r : Fin 256) : (placeOf (top t r)).val = 256 * (grid0.coords t 2).val + r.val := by
  rw [coord]
  show (256 * (t.val / 32 * 8 + t.val % 8) + r.val) % 2048 = _
  omega

/-- The scores of the point's blocks are those of the argument arrays. -/
theorem score_eq (r : Fin 256) (l : Fin 128) : keyScore (iblk m c 0 t) (iblk m c 1 t) (if l.val < 64 then 0 else 1) r
    = score (m ((c : Thread nD τ).loc main_arg0)) (m ((c : Thread nD τ).loc main_arg1)) (seqOf (top t r)) (headOf (wide t l)) (placeOf (top t r)) := by
  funext k
  unfold keyScore score
  split
  · refine congrArg (fun z : EReal => z * Ideal.ofBits .f32 0x3E000000#32) (Finset.sum_congr rfl fun d _ => ?_)
    rw [row_top, row_key, lane_wide]
    exact congrArg₂ (fun a b : EReal => a * b) (query_blk m c t r _) (key_blk m c t _ _)
  · rfl

theorem value_eq (r : Fin 256) (l : Fin 128) : keyValue (iblk m c 2 t) l = value (m ((c : Thread nD τ).loc main_arg2)) (seqOf (top t r)) (wide t l) := by
  funext k
  unfold keyValue value
  split
  · rw [row_key]
    exact value_blk m c t _ l
  · rfl

theorem outs (r : Fin 256) (l : Fin 128) : outsAt0 m c t (ix2 r l) = result (m ((c : Thread nD τ).loc main_arg0)) (m ((c : Thread nD τ).loc main_arg1)) (m ((c : Thread nD τ).loc main_arg2)) (top t r) (wide t l) := by
  have e := out_at c (grid0.coords t) (ms0_0 t) (hs0_0 t) (ms0_1 t) (hs0_1 t) (ms0_2 t) (hs0_2 t) (ms0_3 t) (hs0_3 t) (iblk m c 0 t) (iblk m c 1 t) (iblk m c 2 t) r l
  rw [score_eq m c t r l, value_eq m c t r l, ← place_top] at e
  exact e

/-- The call's result array after the run. -/
theorem final : (dats m 0 c).arrAt 3 (cfgs 0).N = spec (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  refine (outs m c t y0 y1).trans ?_
  exact (congrArg (spec (m ((c : Thread nD τ).loc main_arg0)) (m ((c : Thread nD τ).loc main_arg1)) (m ((c : Thread nD τ).loc main_arg2))) (place3 t y0 y1)).symm

end Cert.StickKernel

end
-- ==== Proof.StickWindow.lean ====
/- Stick-breaking attention: a sum over a window that reaches from each place to the axis' end. -/
module

public import proofs.«01_k».proof.Proof.StickMath
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.StickWindow

open Cert.StickMath

/-- Adding every place of a window in turn is the sum over its indices. -/
theorem fold_sum (W : Shape) (g : W.Idx → EReal) (v : EReal) :
    (List.finRange W.numel).foldl (fun r n => r + g (W.rowMajor.symm n)) v = v + ∑ i, g i := by
  have h : ∀ (l : List (Fin W.numel)) (v : EReal), l.foldl (fun r n => r + g (W.rowMajor.symm n)) v = v + (l.map fun n => g (W.rowMajor.symm n)).sum := by
    intro l
    induction l with
    | nil => intro v; simp
    | cons a l ih => intro v; rw [List.foldl_cons, ih, List.map_cons, List.sum_cons, add_assoc]
  rw [h, ← List.ofFn_eq_map, List.sum_ofFn]
  exact congrArg _ (Equiv.sum_comp W.rowMajor.symm g)

/-- The windowed sum at an index: the initial value, and every place of the window, padding or not. -/
theorem window_sum {s t u : Shape} (window strides lo hi : Fin s.rank → ℕ) (x : FVec Ideal s .f32) (v : FVec Ideal u .f32)
    (h : s.ReduceWindows window strides lo hi t) (hu : 0 < u.numel) (j : t.Idx) :
    Host.reduceWindowAdd window strides lo hi x v h hu j = v (Shape.Idx.first hu) + ∑ i : (⟨s.rank, window⟩ : Shape).Idx,
      if hin : ∀ a, lo a ≤ (j (a.cast h.1.symm)).val * strides a + (i a).val ∧ (j (a.cast h.1.symm)).val * strides a + (i a).val - lo a < s.size a
        then x (fun a => ⟨(j (a.cast h.1.symm)).val * strides a + (i a).val - lo a, (hin a).2⟩) else v (Shape.Idx.first hu) := by
  unfold Host.reduceWindowAdd
  rw [Ideal.hostReduceWindowAdd_def]
  unfold Ideal.hostReduceWindowAdd Host.reduceWindow
  dsimp only
  refine Eq.trans (congrArg (fun g => List.foldl g (v (Shape.Idx.first hu)) (List.finRange (⟨s.rank, window⟩ : Shape).numel))
    (funext fun r => funext fun n => congrArg (fun z : EReal => r + z) (dite_congr rfl (fun _ => rfl) fun _ => rfl))) (fold_sum ⟨s.rank, window⟩ (fun i =>
    if hin : ∀ a, lo a ≤ (j (a.cast h.1.symm)).val * strides a + (i a).val ∧ (j (a.cast h.1.symm)).val * strides a + (i a).val - lo a < s.size a
      then x (fun a => ⟨(j (a.cast h.1.symm)).val * strides a + (i a).val - lo a, (hin a).2⟩) else v (Shape.Idx.first hu)) (v (Shape.Idx.first hu)))

/-- A sum over a window's indices that has one long axis, the last. -/
theorem sum_last (g : (⟨4, ![1, 1, 1, 2048]⟩ : Shape).Idx → EReal) : ∑ i, g i = ∑ w : Fin 2048, g (ix4 0 0 0 w) := by
  refine (Fintype.sum_bijective (fun w : Fin 2048 => (ix4 0 0 0 w : (⟨4, ![1, 1, 1, 2048]⟩ : Shape).Idx)) ⟨fun a b e => ?_, fun y => ⟨y 3, ?_⟩⟩ _ _ fun w => rfl).symm
  · exact congrFun e 3
  · funext a
    match a with
    | 0 => exact Subsingleton.elim (α := Fin 1) _ _
    | 1 => exact Subsingleton.elim (α := Fin 1) _ _
    | 2 => exact Subsingleton.elim (α := Fin 1) _ _
    | 3 => rfl

/-- What is left of an axis, counted from a place. -/
theorem sum_rest (f : ℕ → EReal) (k : ℕ) : (∑ w : Fin 2048, if k + w.val < 2048 then f (k + w.val) else 0) = ∑ j ∈ Finset.Ico k 2048, f j := by
  rw [Fin.sum_univ_eq_sum_range (fun w => if k + w < 2048 then f (k + w) else 0) 2048, Finset.sum_Ico_eq_sum_range]
  refine Eq.symm (Finset.sum_congr_of_eq_on_inter ?_ ?_ ?_)
  · intro i hi hn
    exact absurd (Finset.mem_range.2 (by have := Finset.mem_range.1 hi; omega)) hn
  · intro i hi hn
    exact if_neg fun h => hn (Finset.mem_range.2 (by omega))
  · intro i hi _
    exact (if_pos (by have := Finset.mem_range.1 hi; omega)).symm

/-- The windowed sum whose window reaches from each place to the end of the last axis. -/
theorem suffix_sum {A B C : ℕ} (x : FVec Ideal ⟨4, ![A, B, C, 2048]⟩ .f32) (v : FVec Ideal ⟨0, ![]⟩ .f32) (h : Shape.ReduceWindows ⟨4, ![A, B, C, 2048]⟩ ![1, 1, 1, 2048] ![1, 1, 1, 1] ![0, 0, 0, 0] ![0, 0, 0, 2047] ⟨4, ![A, B, C, 2048]⟩) (hu)
    (hv : v (Shape.Idx.first hu) = 0) (p : Fin A) (q : Fin B) (r : Fin C) (k : Fin 2048) (f : ℕ → EReal) (hf : ∀ j : Fin 2048, x (ix4 p q r j) = f j.val) :
    Host.reduceWindowAdd ![1, 1, 1, 2048] ![1, 1, 1, 1] ![0, 0, 0, 0] ![0, 0, 0, 2047] x v h hu (ix4 p q r k) = ∑ j ∈ Finset.Ico k.val 2048, f j := by
  refine (window_sum _ _ _ _ x v h hu _).trans ?_
  rw [hv, zero_add]
  refine (sum_last _).trans ?_
  rw [← sum_rest]
  refine Finset.sum_congr rfl fun w _ => ?_
  by_cases hw : k.val + w.val < 2048
  · have hin : ∀ a : Fin 4, (![0, 0, 0, 0] : Fin 4 → ℕ) a ≤ ((ix4 p q r k : (⟨4, ![A, B, C, 2048]⟩ : Shape).Idx) a).val * (![1, 1, 1, 1] : Fin 4 → ℕ) a + ((ix4 0 0 0 w : (⟨4, ![1, 1, 1, 2048]⟩ : Shape).Idx) a).val
        ∧ ((ix4 p q r k : (⟨4, ![A, B, C, 2048]⟩ : Shape).Idx) a).val * (![1, 1, 1, 1] : Fin 4 → ℕ) a + ((ix4 0 0 0 w : (⟨4, ![1, 1, 1, 2048]⟩ : Shape).Idx) a).val - (![0, 0, 0, 0] : Fin 4 → ℕ) a < (⟨4, ![A, B, C, 2048]⟩ : Shape).size a := by
      intro a
      match a with
      | 0 => exact ⟨Nat.zero_le _, show p.val * 1 + 0 - 0 < A by omega⟩
      | 1 => exact ⟨Nat.zero_le _, show q.val * 1 + 0 - 0 < B by omega⟩
      | 2 => exact ⟨Nat.zero_le _, show r.val * 1 + 0 - 0 < C by omega⟩
      | 3 => exact ⟨Nat.zero_le _, show k.val * 1 + w.val - 0 < 2048 by omega⟩
    rw [if_pos hw]
    refine (dif_pos hin).trans ?_
    refine Eq.trans (congrArg x ?_) (hf ⟨k.val + w.val, hw⟩)
    funext a
    apply Fin.ext
    match a with
    | 0 => show p.val * 1 + 0 - 0 = p.val; omega
    | 1 => show q.val * 1 + 0 - 0 = q.val; omega
    | 2 => show r.val * 1 + 0 - 0 = r.val; omega
    | 3 => show k.val * 1 + w.val - 0 = k.val + w.val; omega
  · rw [if_neg hw]
    refine dif_neg fun hin => hw ?_
    have e : k.val * 1 + w.val - 0 < 2048 := (hin 3).2
    omega

end Cert.StickWindow

end
-- ==== Proof.StickRef.lean ====
/- Stick-breaking attention: the reference's array, from the argument arrays. -/
module

public import proofs.«01_k».proof.Proof.StickWindow
public import proofs.«01_k».proof.Proof.StickSpec
public import proofs.«01_k».proof.Proof.StickTile
public import proofs.«01_k».proof.Proof.Gen.Reference5Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.StickRef

open Cert.Reference5Ideal Cert.Reference5Ideal.Gen Cert.StickMath Cert.StickSpec

open Cert.LruMath (softplus)

/-- The reference's array of all scores, its mask, and its softplus, as printed. -/
abbrev Square := FVec Ideal S8x8x2048x2048 .f32

def zeros : Square := broadcastInDim S8x8x2048x2048 ![] bcast_S_S8x8x2048x2048 (constant S_ .f32 0x00000000#32)

def soft (x : Square) : Square :=
  select (cmpf .une (subf x zeros) (subf x zeros)) (addf x zeros)
    (addf (maximumf x zeros) (Host.log1p (Host.exp (Host.negf (Host.absf (subf x zeros))))))

def scores (q k : FVec Ideal S16384x512 .f32) : Square :=
  mulf (Host.dotGeneral dot_S8x2048x8x64_S8x2048x8x64_S8x8x2048x2048_3_3_1_1_02_02 none (shapeCast _ q shapeCasts_S16384x512_S8x2048x8x64)
    (shapeCast _ k shapeCasts_S16384x512_S8x2048x8x64)) (broadcastInDim S8x8x2048x2048 ![] bcast_S_S8x8x2048x2048 (constant S_ .f32 0x3E000000#32))

def earlier : IVec S8x8x2048x2048 1 :=
  broadcastInDim S8x8x2048x2048 ![0, 1, 2, 3] bcast_S1x1x2048x2048_S8x8x2048x2048_0_1_2_3 (broadcastInDim S1x1x2048x2048 ![2, 3] bcast_S2048x2048_S1x1x2048x2048_2_3
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0)))))

def lefts (z : Square) : Square := select earlier (Host.negf (soft (Host.negf (Host.negf z)))) zeros

def sums (x : Square) : Square :=
  Host.reduceWindowAdd ![1, 1, 1, 2048] ![1, 1, 1, 1] ![0, 0, 0, 0] ![0, 0, 0, 2047] x (broadcastInDim S_ ![] bcast_S_S_ (constant S_ .f32 0x00000000#32))
    reduceWindows_S8x8x2048x2048_S8x8x2048x2048_w1s1p0_0_w1s1p0_0_w1s1p0_0_w2048s1p0_2047 h_S_

def weights (z : Square) : Square := select earlier (Host.exp (addf (Host.negf (soft (Host.negf z))) (subf (sums (lefts z)) (lefts z)))) zeros

def whole (q k v : FVec Ideal S16384x512 .f32) : FVec Ideal S16384x512 .f32 :=
  shapeCast _ (transpose S8x2048x8x64 [0, 3, 1, 2] (Host.dotGeneral dot_S8x2048x8x64_S8x8x2048x2048_S8x8x64x2048_1_3_3_2_02_01 none
    (shapeCast _ v shapeCasts_S16384x512_S8x2048x8x64) (weights (scores q k))) transposes_S8x8x64x2048_S8x2048x8x64_0_3_1_2) shapeCasts_S8x2048x8x64_S16384x512

theorem res_eq (m : (ℓ : Loc nD τ sig) → Buf (Elt Ideal) ℓ) (c : Dev nD) : Value.res_main_v24 (F := Ideal) m c
    = whole (m ((c : Thread nD τ).loc main_arg0)) (m ((c : Thread nD τ).loc main_arg1)) (m ((c : Thread nD τ).loc main_arg2)) := rfl

variable (b h : Fin 8) (Q K : Fin 2048)

theorem zeros_at : zeros (ix4 b h Q K) = 0 := by
  refine Eq.trans ?_ StickTile.zero_bits
  pointwise [zeros]

theorem soft_at (x : Square) : soft x (ix4 b h Q K) = softplus (x (ix4 b h Q K)) := by
  have z := zeros_at b h Q K
  unfold softplus
  pointwise [soft]
  rw [if_neg (not_not.2 rfl), z, sub_zero]
  rfl

theorem scores_at (q k : FVec Ideal S16384x512 .f32) : scores q k (ix4 b h Q K) = score q k b h Q K.val := by
  unfold score
  rw [dif_pos K.isLt]
  pointwise [scores, row, lane]
  refine congrArg (fun z : EReal => z * _) (Finset.sum_congr rfl fun d _ => ?_)
  refine congrArg₂ (fun x y : EReal => x * y) (congrArg q (congrArg₂ ix2 (Fin.ext ?_) (Fin.ext ?_))) (congrArg k (congrArg₂ ix2 (Fin.ext ?_) (Fin.ext ?_)))
  all_goals exact congrArg (· + _) (Nat.mul_comm _ _)

theorem earlier_at : earlier (ix4 b h Q K) = BitVec.ofBool (decide (K.val < Q.val)) := by
  refine Eq.trans ?_ (WordCmp.cmpi_slt_ofNat (w := 32) (a := K.val) (b := Q.val) (by omega) (by omega))
  pointwise [earlier]

theorem lefts_at (z : Square) (s : ℕ → EReal) (hz : z (ix4 b h Q K) = s K.val) : lefts z (ix4 b h Q K) = left s Q.val K.val := by
  unfold lefts
  show Scalar.select (earlier (ix4 b h Q K)) (-(soft (Host.negf (Host.negf z)) (ix4 b h Q K))) (zeros (ix4 b h Q K)) = _
  rw [earlier_at, zeros_at, soft_at, WordCmp.select_ofBool]
  have e : Host.negf (Host.negf z) (ix4 b h Q K) = s K.val := by
    rw [← hz, ← neg_neg (z (ix4 b h Q K))]
    pointwise []
  rw [e]
  unfold left
  simp only [decide_eq_true_eq]

theorem sums_at (x : Square) (f : ℕ → EReal) (hf : ∀ j : Fin 2048, x (ix4 b h Q j) = f j.val) : sums x (ix4 b h Q K) = ∑ j ∈ Finset.Ico K.val 2048, f j := by
  refine StickWindow.suffix_sum x _ _ _ ?_ b h Q K f hf
  exact StickTile.zero_bits

theorem weights_at (z : Square) (s : ℕ → EReal) (hz : ∀ j : Fin 2048, z (ix4 b h Q j) = s j.val) : weights z (ix4 b h Q K) = weight s Q.val K.val := by
  unfold weights
  show Scalar.select (earlier (ix4 b h Q K)) (Ideal.exp (-(soft (Host.negf z) (ix4 b h Q K)) + (sums (lefts z) (ix4 b h Q K) - lefts z (ix4 b h Q K)))) (zeros (ix4 b h Q K)) = _
  rw [earlier_at, zeros_at, soft_at, WordCmp.select_ofBool, lefts_at b h Q K z s (hz K), sums_at b h Q K _ _ fun j => lefts_at b h Q j z s (hz j)]
  have e : Host.negf z (ix4 b h Q K) = -s K.val := by
    rw [← hz]
    pointwise []
  rw [e]
  unfold weight from_
  simp only [decide_eq_true_eq]

/-- The reference's array. -/
theorem whole_eq (q k v : FVec Ideal S16384x512 .f32) : whole q k v = spec q k v := by
  funext y
  idx_vars y
  unfold spec
  have w : ∀ K, weights (scores q k) (ix4 (seqOf y0) (headOf y1) (placeOf y0) K) = weight (score q k (seqOf y0) (headOf y1) (placeOf y0)) (placeOf y0).val K.val :=
    fun K => weights_at _ _ _ K _ _ fun j => scores_at _ _ _ j q k
  pointwise [whole]
  unfold result mixed
  rw [show Finset.Ico 0 2048 = Finset.range 2048 from by simp, ← Fin.sum_univ_eq_sum_range (fun j => weight (score q k (seqOf y0) (headOf y1) (placeOf y0)) (placeOf y0).val j * value v (seqOf y0) y1 j) 2048]
  refine Finset.sum_congr rfl fun K _ => ?_
  rw [mul_comm]
  refine congrArg₂ (fun x y : EReal => x * y) (w K) ?_
  unfold value
  rw [dif_pos K.isLt]
  exact congrArg v (congrArg₂ ix2 (Fin.ext (congrArg (· + _) (Nat.mul_comm _ _))) rfl)

end Cert.StickRef

end
-- ==== Proof.StickClaim.lean ====
/- The stick-breaking call against its reference: equal results over the extended reals. -/
module

public import proofs.«01_k».proof.Proof.StickKernel
public import proofs.«01_k».proof.Proof.StickRef
public import proofs.«01_k».proof.Defs

@[expose] public section

set_option maxRecDepth 16384

noncomputable section

open Idealize.ShloMosaic Idealize.ShloMosaic.TcCoe Idealize.SL.Sem

namespace Cert.StickClaim

set_option maxHeartbeats 2000000 in
/-- The kernel and its reference compute the same array. -/
theorem algebraic : Cert.algebraic_Kernel5Ideal_Reference5Ideal := by
  pair_intro
  · run_from Cert.Kernel5Ideal.Gen.run_main m g
  · run_from Cert.Reference5Ideal.Value.run m' g'
    refine Eq.trans ?_ (Cert.StickKernel.final m c).symm
    refine (Cert.StickRef.res_eq m' c).trans ((Cert.StickRef.whole_eq _ _ _).trans ?_)
    obtain ⟨h0, h1, h2⟩ := hagree c
    rw [h0, h1, h2]

end Cert.StickClaim

end
-- ==== Proof.StepSpec.lean ====
/- The recurrence's decode step: what it computes for the sample batch, each sequence one row further. -/
module

public import proofs.«01_k».proof.Proof.LruSpec
public import proofs.«01_k».proof.Proof.Gen.Kernel6Ideal.Value
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StepSpec

open Cert.Kernel6Ideal Cert.LruSpec

/-- Sequence `b`: its three rows from before, then its new row. -/
def seqOf (xb : FVec Ideal S32x512 .f32) (cbuf : FVec Ideal S32x3x512 .f32) (b : Fin 32) (t : ℕ) (j : Fin 512) : EReal :=
  if h : t < 3 then cbuf (ix3 b ⟨t, h⟩ j) else xb (ix2 b j)

/-- The state after one step of every sequence `X b` from `h0`. -/
def next (L : Layer) (X : Fin 32 → ℕ → Fin 512 → EReal) (h0 : FVec Ideal S32x512 .f32) : FVec Ideal S32x512 .f32 := fun y =>
  L.decay (X (y 0)) 0 (y 1) * h0 y + L.input (X (y 0)) 0 (y 1)

/-- The first result: the new states times the gate. -/
def spec11 (L : Layer) (X : Fin 32 → ℕ → Fin 512 → EReal) (gb h0 : FVec Ideal S32x512 .f32) : FVec Ideal S32x512 .f32 := fun y =>
  next L X h0 y * gelu (gb y)

/-- The second result: every sequence's last three rows. -/
def spec12 (X : Fin 32 → ℕ → Fin 512 → EReal) : FVec Ideal S3x32x512 .f32 := fun y => X (y 1) ((y 0).val + 1) (y 2)

end Cert.StepSpec

end
-- ==== Proof.StepKernel.lean ====
/- The recurrence's decode step: the three arrays the call leaves, from the argument arrays. -/
module

public import proofs.«01_k».proof.Proof.StepSpec
public import proofs.«01_k».proof.Proof.LruTrip
public import proofs.«01_k».proof.Proof.LruKernel
public import proofs.«01_k».proof.Proof.Gen.Kernel6Ideal.Value
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StepKernel

open Cert.Kernel6Ideal Cert.Kernel6Ideal.Gen Cert.LruMath Cert.LruSpec
open Cert.LruTrip (layer)
open Cert.StepSpec
open Cert.LruKernel (layerOf diag diag_eq)

variable (m : (ℓ : Loc nD τ sig) → Buf (Elt Ideal) ℓ)

/-- The rows of the call's blocks, the earlier rows coming first by place. -/
def rows (x0 : Vec Ideal S32x512 .f32) (x2 : Vec Ideal S3x32x512 .f32) (b : Fin 32) (t : ℕ) (j : Fin 512) : EReal :=
  if h : t < 3 then x2 (ix3 ⟨t, h⟩ b j) else x0 (ix2 b j)

variable (x0 x1 x3 : Vec Ideal S32x512 .f32) (x2 : Vec Ideal S3x32x512 .f32) (x4 : Vec Ideal S4x512 .f32) (x5 : Vec Ideal S1x512 .f32)
  (x6 : Vec Ideal S512x512 .bf16) (x7 : Vec Ideal S1x512 .f32) (x8 : Vec Ideal S512x512 .bf16) (x9 x10 : Vec Ideal S1x512 .f32)

/-- The convolution of a sequence. -/
theorem conv_at (b : Fin 32) (j : Fin 512) :
    k0_pay7 (View.ld x0 r0_0) (View.ld x2 r0_1) (View.ld x2 r0_2) (View.ld x2 r0_3) (View.ld x4 r0_4) (View.ld x4 r0_5) (View.ld x4 r0_6)
        (View.ld x4 r0_7) (View.ld x5 r0_8) (ix2 b j)
      = (layer x4 x5 x6 x7 x8 x9 x10).conv (rows x0 x2 b) 0 j := by
  unfold Layer.conv rows layer
  pointwise [k0_pay7, k0_pay5, k0_pay6]

/-- The recurrence gate before its sigmoid. -/
theorem rsum_at (b : Fin 32) (j : Fin 512) :
    k0_pay9 (View.ld x0 r0_0) (View.ld x2 r0_1) (View.ld x2 r0_2) (View.ld x2 r0_3) (View.ld x4 r0_4) (View.ld x4 r0_5) (View.ld x4 r0_6)
        (View.ld x4 r0_7) (View.ld x5 r0_8) (View.ld x6 r0_9) (View.ld x7 r0_8) (ix2 b j)
      = ∑ k, (layer x4 x5 x6 x7 x8 x9 x10).conv (rows x0 x2 b) 0 k * (layer x4 x5 x6 x7 x8 x9 x10).wr k j + (layer x4 x5 x6 x7 x8 x9 x10).br j := by
  have e : ∀ v0 v1 v3 v5 v7 v10 v14 v18 v22, k0_pay9 (F := Ideal) v0 v1 v3 v5 v7 v10 v14 v18 v22 (View.ld x6 r0_9) (View.ld x7 r0_8) (ix2 b j)
      = ∑ k, k0_pay7 v0 v1 v3 v5 v7 v10 v14 v18 v22 (ix2 b k) * x6 (ix2 k j) + x7 (ix2 0 j) := by
    intros
    pointwise [k0_pay9, k0_pay8]
  rw [e]
  refine congrArg (fun z : EReal => z + x7 (ix2 0 j)) (Finset.sum_congr rfl fun k _ => ?_)
  exact congrArg (fun z : EReal => z * x6 (ix2 k j)) (conv_at x0 x2 x4 x5 x6 x7 x8 x9 x10 b k)

/-- The new state, from the convolution and the gate. -/
theorem state_at (v25 v33 : FVec Ideal S32x512 .f32) (L : Layer) (X : ℕ → Fin 512 → EReal) (b : Fin 32) (j : Fin 512)
    (hc : ∀ k, v25 (ix2 b k) = L.conv X 0 k) (hr : v33 (ix2 b j) = ∑ k, L.conv X 0 k * L.wr k j + L.br j)
    (hw : ∀ k, x8 (ix2 k j) = L.wi k j) (hb : x9 (ix2 0 j) = L.bi j) (hl : x10 (ix2 0 j) = L.lam j) :
    k0_pay10 v25 v25 v33 (View.ld x8 r0_9) (View.ld x9 r0_8) (View.ld x10 r0_8) (View.ld x3 r0_0) (ix2 b j)
      = L.decay X 0 j * x3 (ix2 b j) + L.input X 0 j := by
  have e : k0_pay10 v25 v25 v33 (View.ld x8 r0_9) (View.ld x9 r0_8) (View.ld x10 r0_8) (View.ld x3 r0_0) (ix2 b j)
      = Ideal.exp (Ideal.ofBits .f32 0xC1000000#32 * Ideal.logistic (v33 (ix2 b j)) * softplus (-x10 (ix2 0 j))) * x3 (ix2 b j)
        + Ideal.sqrt ((0 - Ideal.tanh (Ideal.ofBits .f32 0xC1000000#32 * Ideal.logistic (v33 (ix2 b j)) * softplus (-x10 (ix2 0 j))))
            * (Ideal.exp (Ideal.ofBits .f32 0x40000000#32 * (Ideal.ofBits .f32 0xC1000000#32 * Ideal.logistic (v33 (ix2 b j)) * softplus (-x10 (ix2 0 j)))) + 1))
          * (Ideal.logistic (∑ k, v25 (ix2 b k) * x8 (ix2 k j) + x9 (ix2 0 j)) * v25 (ix2 b j)) := by
    unfold softplus
    pointwise [k0_pay10]
    simp only [zero_sub]
    rfl
  rw [e, hr, hl, hb, hc j, Layer.input_tanh]
  simp only [hc, hw]
  rfl

/-- The third block: the new states. -/
theorem out13_at (b : Fin 32) (j : Fin 512) : out0_13 x0 x1 x2 x3 x4 x5 x6 x7 x8 x9 x10 (ix2 b j)
    = next (layer x4 x5 x6 x7 x8 x9 x10) (rows x0 x2) x3 (ix2 b j) := by
  have hz : (![0, 0] : Fin 2 → ℕ) = fun _ => 0 := by decide
  unfold out0_13
  rw [View.canon_unit_zero hz]
  exact state_at x3 x8 x9 x10 _ _ (layer x4 x5 x6 x7 x8 x9 x10) (rows x0 x2 b) b j (conv_at x0 x2 x4 x5 x6 x7 x8 x9 x10 b)
    (rsum_at x0 x2 x4 x5 x6 x7 x8 x9 x10 b j) (fun _ => rfl) rfl rfl

/-- The first block: the new states times the gate. -/
theorem out11_at (b : Fin 32) (j : Fin 512) : out0_11 x0 x1 x2 x3 x4 x5 x6 x7 x8 x9 x10 (ix2 b j)
    = spec11 (layer x4 x5 x6 x7 x8 x9 x10) (rows x0 x2) x1 x3 (ix2 b j) := by
  have hz : (![0, 0] : Fin 2 → ℕ) = fun _ => 0 := by decide
  have e : ∀ v : FVec Ideal S32x512 .f32, k0_pay1 v (View.ld x1 r0_0) (ix2 b j) = v (ix2 b j) * gelu (x1 (ix2 b j)) := by
    intro v
    pointwise [k0_pay1, gelu]
  have s := out13_at x0 x1 x3 x2 x4 x5 x6 x7 x8 x9 x10 b j
  unfold out0_13 at s
  rw [View.canon_unit_zero hz] at s
  unfold out0_11
  rw [View.canon_unit_zero hz, e, s]
  rfl

/-- The second block: the last three rows. -/
theorem out12_at (i : Fin 3) (b : Fin 32) (j : Fin 512) : out0_12 x0 x1 x2 x3 x4 x5 x6 x7 x8 x9 x10 (ix3 i b j)
    = rows x0 x2 b (i.val + 1) j := by
  unfold out0_12
  canon_tiles u h
  all_goals
    simp only [ix3_0, ix3_1, ix3_2] at h0 h1 h2
    pointwise [k0_pay2, k0_pay3, k0_pay4, k0_pay5, k0_pay6, rows]
    have hb : b = u 1 := Fin.ext (by omega)
    have hj : j = u 2 := Fin.ext (by omega)
    rw [hb, hj]
  · rw [dif_neg (by omega)]
  · rw [dif_pos (by omega)]
    exact congrArg (fun k : Fin 3 => x2 (ix3 k (u 1) (u 2))) (Fin.ext (show 2 = i.val + 1 by omega))
  · rw [dif_pos (by omega)]
    exact congrArg (fun k : Fin 3 => x2 (ix3 k (u 1) (u 2))) (Fin.ext (show 1 = i.val + 1 by omega))

/-- The windows' block indices. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0, 0] ∧ win0_13.index t = ![0, 0] :=
  (by decide +kernel : ∀ t : Fin grid0.N, _)

variable (c : Dev nD) (t : Fin cfg0.N)

/-- The layer of the blocks is the layer of the argument arrays. -/
theorem layer_eq : layer (iblk m c 4 t) (iblk m c 5 t) (iblk m c 6 t) (iblk m c 7 t) (iblk m c 8 t) (iblk m c 9 t) (iblk m c 10 t)
    = (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  unfold layer layerOf
  congr 1
  · funext n j; blk_point [iblk, V, idx t]
  · funext j; blk_point [iblk, V, idx t]
  · funext k j
    refine Eq.trans ?_ (diag_eq (m ((c : Thread nD τ).loc main_arg6)) k j).symm
    blk_point [iblk, V, idx t]
  · funext j; blk_point [iblk, V, idx t]
  · funext k j
    refine Eq.trans ?_ (diag_eq (m ((c : Thread nD τ).loc main_arg8)) k j).symm
    blk_point [iblk, V, idx t]
  · funext j; blk_point [iblk, V, idx t]
  · funext j; blk_point [iblk, V, idx t]

/-- The rows of the blocks are those of the argument arrays. -/
theorem rows_eq : rows (iblk m c 0 t) (iblk m c 2 t) = seqOf (m ((c : Thread nD τ).loc main_arg0)) (m ((c : Thread nD τ).loc main_arg2)) := by
  funext b n j
  unfold rows seqOf
  split
  · blk_point [iblk, V, idx t]
  · blk_point [iblk, V, idx t]

theorem gate_eq (b : Fin 32) (j : Fin 512) : (iblk m c 1 t : Vec Ideal S32x512 .f32) (ix2 b j) = (m ((c : Thread nD τ).loc main_arg1)) (ix2 b j) := by
  blk_point [iblk, V, idx t]

theorem prior_eq (b : Fin 32) (j : Fin 512) : (iblk m c 3 t : Vec Ideal S32x512 .f32) (ix2 b j) = (m ((c : Thread nD τ).loc main_arg3)) (ix2 b j) := by
  blk_point [iblk, V, idx t]

theorem place11 (b : Fin 32) (j : Fin 512) : (((cfg0.win 11).blk t).view.emb (ix2 b j) : S32x512.Idx) = ix2 b j := by
  blk_ext [idx t]

theorem place12 (i : Fin 3) (b : Fin 32) (j : Fin 512) : (((cfg0.win 12).blk t).view.emb (ix3 i b j) : S3x32x512.Idx) = ix3 i b j := by
  blk_ext [idx t]

theorem place13 (b : Fin 32) (j : Fin 512) : (((cfg0.win 13).blk t).view.emb (ix2 b j) : S32x512.Idx) = ix2 b j := by
  blk_ext [idx t]

/-- The call's first result array after the run. -/
theorem final11 : (dats m 0 c).arrAt 11 (cfgs 0).N = spec11 (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (seqOf (m ((c : Thread nD τ).loc main_arg0)) (m ((c : Thread nD τ).loc main_arg2))) (m ((c : Thread nD τ).loc main_arg1)) (m ((c : Thread nD τ).loc main_arg3)) := by
  refine (dats m 0 c).arrAt_eq_of_covers 11 _ (by decide +kernel) fun t _ y => ?_
  blk_simp
  rw [after0_11]
  idx_vars y
  refine (out11_at _ _ _ _ _ _ _ _ _ _ _ y0 y1).trans ?_
  rw [layer_eq, rows_eq]
  refine Eq.trans ?_ (congrArg (spec11 _ _ _ _) (place11 t y0 y1).symm)
  unfold spec11 next
  rw [gate_eq, prior_eq]

/-- The call's second result array after the run. -/
theorem final12 : (dats m 0 c).arrAt 12 (cfgs 0).N = spec12 (seqOf (m ((c : Thread nD τ).loc main_arg0)) (m ((c : Thread nD τ).loc main_arg2))) := by
  refine (dats m 0 c).arrAt_eq_of_covers 12 _ (by decide +kernel) fun t _ y => ?_
  blk_simp
  rw [after0_12]
  idx_vars y
  refine (out12_at _ _ _ _ _ _ _ _ _ _ _ y0 y1 y2).trans ?_
  rw [rows_eq]
  exact (congrArg (spec12 (seqOf (m ((c : Thread nD τ).loc main_arg0)) (m ((c : Thread nD τ).loc main_arg2)))) (place12 t y0 y1 y2)).symm

/-- The call's third result array after the run. -/
theorem final13 : (dats m 0 c).arrAt 13 (cfgs 0).N = next (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (seqOf (m ((c : Thread nD τ).loc main_arg0)) (m ((c : Thread nD τ).loc main_arg2))) (m ((c : Thread nD τ).loc main_arg3)) := by
  refine (dats m 0 c).arrAt_eq_of_covers 13 _ (by decide +kernel) fun t _ y => ?_
  blk_simp
  rw [after0_13]
  idx_vars y
  refine (out13_at _ _ _ _ _ _ _ _ _ _ _ y0 y1).trans ?_
  rw [layer_eq, rows_eq]
  refine Eq.trans ?_ (congrArg (next _ _ _) (place13 t y0 y1).symm)
  unfold next
  rw [prior_eq]

end Cert.StepKernel

end
-- ==== Proof.StepRef.lean ====
/- The decode step's reference: the three arrays it returns, at every index. -/
module

public import proofs.«01_k».proof.Proof.StepSpec
public import proofs.«01_k».proof.Proof.LruEntry
public import proofs.«01_k».proof.Proof.Gen.Reference6Ideal.Run
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StepRef

open Cert.LruMath Cert.LruSpec Cert.StepSpec Cert.Reference6Ideal Cert.Reference6Ideal.Value Idealize.ShloMosaic.StableHlo Cert.Reference6Ideal.Gen
open Cert.LruKernel (layerOf diag)
open Cert.LruEntry (sum_diag sum_conv loga_eq igate_eq div_lt mod_lt tile_lt)

variable (m : (ℓ : Loc nD τ sig) → Buf (Elt Ideal) ℓ)

/-- The convolution of a sequence, its four taps added one after another. -/
theorem conv_eq (xb : FVec Ideal S32x512 .f32) (cbuf : FVec Ideal S32x3x512 .f32) (cw : FVec Ideal S4x512 .f32) (cb : FVec Ideal S512 .f32) (wa : FVec Ideal S8x64x64 .f32) (ba : FVec Ideal S512 .f32) (wx : FVec Ideal S8x64x64 .f32) (bx lam : FVec Ideal S512 .f32) (b : Fin 32) (q : Fin 512) :
    cb (ix1 q) + (cbuf (ix3 b 0 q) * cw (ix2 0 q) + cbuf (ix3 b 1 q) * cw (ix2 1 q) + cbuf (ix3 b 2 q) * cw (ix2 2 q) + xb (ix2 b q) * cw (ix2 3 q))
      = (layerOf cw cb wa ba wx bx lam).conv (seqOf xb cbuf b) 0 q := rfl

variable (c : Dev nD)

set_option maxHeartbeats 800000 in
/-- The new states. -/
theorem state_eq : res_main_v77 m c = next (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (seqOf (m ((c : Thread nD τ).loc main_arg0)) (m ((c : Thread nD τ).loc main_arg2))) (m ((c : Thread nD τ).loc main_arg3)) := by
  unfold res_main_v77
  generalize (m ((c : Thread nD τ).loc main_arg0)) = xb
  generalize (m ((c : Thread nD τ).loc main_arg2)) = cbuf
  generalize (m ((c : Thread nD τ).loc main_arg3)) = h0
  generalize (m ((c : Thread nD τ).loc main_arg4)) = cw
  generalize (m ((c : Thread nD τ).loc main_arg5)) = cb
  generalize (m ((c : Thread nD τ).loc main_arg6)) = wa
  generalize (m ((c : Thread nD τ).loc main_arg7)) = ba
  generalize (m ((c : Thread nD τ).loc main_arg8)) = wx
  generalize (m ((c : Thread nD τ).loc main_arg9)) = bx
  generalize (m ((c : Thread nD τ).loc main_arg10)) = lam
  funext y
  idx_vars y
  pointwise []
  simp only [conv_eq xb cbuf cw cb wa ba wx bx lam]
  simp only [sum_conv]
  simp only [loga_eq cw cb wa ba wx bx lam, igate_eq cw cb wa ba wx bx lam]
  rfl

/-- The activation, its product grouped from the right. -/
theorem gelu_eq (a : FVec Ideal S32x512 .f32) (p : Fin 32) (q : Fin 512) :
    (mulf a (mulf (broadcastInDim S32x512 ![] bcast_S_S32x512 (constant S_ .f32 0x3F000000#32)) (addf (broadcastInDim S32x512 ![] bcast_S_S32x512 (constant S_ .f32 0x3F800000#32)) (Host.tanh (mulf (broadcastInDim S32x512 ![] bcast_S_S32x512 (constant S_ .f32 0x3F4C422A#32)) (addf a (mulf (broadcastInDim S32x512 ![] bcast_S_S32x512 (constant S_ .f32 0x3D372713#32)) (mulf (mulf a a) a))))))) : FVec Ideal S32x512 .f32) (ix2 p q)
      = gelu (a (ix2 p q)) := by
  pointwise [gelu]
  rw [← mul_assoc, mul_comm (a (ix2 p q)) (Ideal.ofBits FTy.f32 0x3F000000#32)]

/-- The new states times the gate. -/
theorem gated_eq : res_main_v91 m c = spec11 (layerOf (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (seqOf (m ((c : Thread nD τ).loc main_arg0)) (m ((c : Thread nD τ).loc main_arg2))) (m ((c : Thread nD τ).loc main_arg1)) (m ((c : Thread nD τ).loc main_arg3)) := by
  funext y
  rw [eq_ix2 y]
  exact congrArg₂ (· * ·) (congrFun (state_eq m c) (ix2 (y 0) (y 1))) (gelu_eq (m ((c : Thread nD τ).loc main_arg1)) (y 0) (y 1))

/-- The last three rows of every sequence. -/
theorem last_eq (xb : FVec Ideal S32x512 .f32) (cbuf : FVec Ideal S32x3x512 .f32) :
    transpose S3x32x512 [1, 0, 2] (extractStridedSlice S32x3x512 ![0, 1, 0] (concatenate S32x4x512 1 [⟨S32x3x512, cbuf⟩, ⟨S32x1x512, (shapeCast S32x1x512 xb shapeCasts_S32x512_S32x1x512)⟩] concatenates_S32x3x512_S32x1x512_S32x4x512_d1) slices_S32x4x512_S32x3x512_0_1_0) transposes_S32x3x512_S3x32x512_1_0_2
      = spec12 (seqOf xb cbuf) := by
  funext y
  idx_vars y
  pointwise [spec12, seqOf]
  simp only [Nat.add_comm 1 y0.val]

end Cert.StepRef

end
-- ==== Proof.StepClaim.lean ====
/- The recurrence's decode step against its reference: equal results over the extended reals. -/
module

public import proofs.«01_k».proof.Proof.StepKernel
public import proofs.«01_k».proof.Proof.StepRef
public import proofs.«01_k».proof.Defs
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.StepClaim

open Cert.StepKernel Cert.StepSpec Cert.StepRef
open Cert.LruKernel (layerOf)

/-- The kernel and its reference compute the same three arrays. -/
theorem algebraic : Cert.algebraic_Kernel6Ideal_Reference6Ideal := by
  intro m g m' g' hpre hagree
  refine ⟨fun c => spec11 (layerOf (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg5)) (m ((c : Thread Cert.Kernel6Ideal.nD Cert.Kernel6Ideal.τ).loc Cert.Kernel6Ideal.main_arg6)) (m ((c : Thread Cert.Kernel6Ideal.nD Cert.Kernel6Ideal.τ).loc Cert.Kernel6Ideal.main_arg7)) (m ((c : Thread Cert.Kernel6Ideal.nD Cert.Kernel6Ideal.τ).loc Cert.Kernel6Ideal.main_arg8)) (m ((c : Thread Cert.Kernel6Ideal.nD Cert.Kernel6Ideal.τ).loc Cert.Kernel6Ideal.main_arg9)) (m ((c : Thread Cert.Kernel6Ideal.nD Cert.Kernel6Ideal.τ).loc Cert.Kernel6Ideal.main_arg10))) (seqOf (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg2))) (m ((c : Thread Cert.Kernel6Ideal.nD Cert.Kernel6Ideal.τ).loc Cert.Kernel6Ideal.main_arg1)) (m ((c : Thread Cert.Kernel6Ideal.nD Cert.Kernel6Ideal.τ).loc Cert.Kernel6Ideal.main_arg3)),
    fun c => spec12 (seqOf (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg2))),
    fun c => next (layerOf (m ((c : Thread Cert.Kernel6Ideal.nD Cert.Kernel6Ideal.τ).loc Cert.Kernel6Ideal.main_arg4)) (m ((c : Thread Cert.Kernel6Ideal.nD Cert.Kernel6Ideal.τ).loc Cert.Kernel6Ideal.main_arg5)) (m ((c : Thread Cert.Kernel6Ideal.nD Cert.Kernel6Ideal.τ).loc Cert.Kernel6Ideal.main_arg6)) (m ((c : Thread Cert.Kernel6Ideal.nD Cert.Kernel6Ideal.τ).loc Cert.Kernel6Ideal.main_arg7)) (m ((c : Thread Cert.Kernel6Ideal.nD Cert.Kernel6Ideal.τ).loc Cert.Kernel6Ideal.main_arg8)) (m ((c : Thread Cert.Kernel6Ideal.nD Cert.Kernel6Ideal.τ).loc Cert.Kernel6Ideal.main_arg9)) (m ((c : Thread Cert.Kernel6Ideal.nD Cert.Kernel6Ideal.τ).loc Cert.Kernel6Ideal.main_arg10))) (seqOf (m ((c : Thread Cert.Kernel6Ideal.nD Cert.Kernel6Ideal.τ).loc Cert.Kernel6Ideal.main_arg0)) (m ((c : Thread Cert.Kernel6Ideal.nD Cert.Kernel6Ideal.τ).loc Cert.Kernel6Ideal.main_arg2))) (m ((c : Thread Cert.Kernel6Ideal.nD Cert.Kernel6Ideal.τ).loc Cert.Kernel6Ideal.main_arg3)), ?_, ?_⟩
  · refine θ_run_mono (Cert.Kernel6Ideal.Value.run_blocks m g) fun r hr c => ?_
    obtain ⟨k0, k1, k2, rest⟩ := hr c
    exact ⟨k0.trans (final11 m c), k1.trans (final12 m c), k2.trans (final13 m c), rest⟩
  · refine θ_run_mono (Cert.Reference6Ideal.Value.run m' g') fun r hr c => ?_
    obtain ⟨k0, k1, k2, rest⟩ := hr c
    obtain ⟨e0, e1, e2, e3, e4, e5, e6, e7, e8, e9, e10⟩ := hagree c
    have r0 := k0.trans (gated_eq m' c)
    have r1 := k1.trans (last_eq _ _)
    have r2 := k2.trans (state_eq m' c)
    rw [e0, e1, e2, e3, e4, e5, e6, e7, e8, e9, e10] at r0
    rw [e0, e2] at r1
    rw [e0, e2, e3, e4, e5, e6, e7, e8, e9, e10] at r2
    exact ⟨r0, r1, r2, rest⟩

end Cert.StepClaim

end
-- ==== Proof.FfnLast.lean ====
/- The last feed-forward call, with the final norm after it: what the kernel leaves in its
   result array, as one function of the call's arguments. -/
module

public import proofs.«01_k».proof.Proof.Gen.Kernel7Ideal.Value
public import proofs.«01_k».proof.Proof.Ffn
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnLast

open Cert.Kernel7Ideal Cert.Kernel7Ideal.Gen Cert.Rows
open Cert.Ffn (row hid row_congr)

variable (m : (ℓ : Loc nD τ sig) → Buf (Elt Ideal) ℓ)

/-- The call's result array, from the argument arrays: the second layer's feed-forward row, normalised once more. -/
def spec (X : FVec Ideal S16384x1024 .f32) (g : FVec Ideal S1024 .f32) (W1 W3 : FVec Ideal S2x1024x2816 .f32)
    (W2 : FVec Ideal S2x2816x1024 .f32) (gf : FVec Ideal S1024 .f32) : FVec Ideal S16384x1024 .f32 := fun j =>
  nrm (row (fun k => X (ix2 (j 0) k)) (fun k => g (ix1 k)) (fun k n => W1 (ix3 1 k n)) (fun k n => W3 (ix3 1 k n))
    (fun n d => W2 (ix3 1 n d))) (fun k => gf (ix1 k)) (j 1)

/-- Equal rows, scales and column give equal normalised elements. -/
theorem nrm_congr {x x' g g' : Fin 1024 → EReal} {d d' : Fin 1024} (hx : x = x') (hg : g = g') (hd : d = d') :
    nrm x g d = nrm x' g' d' := by
  subst hx hg hd; rfl

/-- The kernel's normalised block, at an element. -/
theorem norm_at (x : Vec Ideal S512x1024 .f32) (g : Vec Ideal S1x1024 .f32) (r : Fin 512) (k : Fin 1024) :
    k0_pay2 (F := Ideal) x g (ix2 r k) = nrm (fun j => x (ix2 r j)) (fun j => g (ix2 0 j)) k := by
  pointwise [k0_pay2, nrm]

/-- The stored block over the sum of the first ten pieces and the last piece's two projections, at an element. -/
theorem last_at (x a : Vec Ideal S512x1024 .f32) (p q : Vec Ideal S512x256 .f32) (w2 : Vec Ideal S1x256x1024 .bf16)
    (gf : Vec Ideal S1x1024 .f32) (r : Fin 512) (d : Fin 1024) :
    k0_pay1 (F := Ideal) x a p q w2 gf (ix2 r d) = nrm (fun e => x (ix2 r e) + Ideal.ofBits .f32 0x3F000000#32
      * (a (ix2 r e) + ∑ t : Fin 256, p (ix2 r t) * Ideal.logistic (p (ix2 r t)) * q (ix2 r t) * w2 (ix3 0 t e)))
      (fun k => gf (ix2 0 k)) d := by
  pointwise [k0_pay1, nrm]

set_option maxHeartbeats 2000000 in
/-- What one grid point stores, at an element: that row's result over the point's blocks, normalised. -/
theorem store_at (x : Vec Ideal S512x1024 .f32) (g : Vec Ideal S1x1024 .f32) (w1 w3 : Vec Ideal S1x1024x2816 .bf16)
    (w2 : Vec Ideal S1x2816x1024 .bf16) (gf : Vec Ideal S1x1024 .f32) (r : Fin 512) (d : Fin 1024) :
    out0_6 x g w1 w3 w2 gf (ix2 r d) = nrm (row (fun k => x (ix2 r k)) (fun k => g (ix2 0 k)) (fun k n => w1 (ix3 0 k n))
      (fun k n => w3 (ix3 0 k n)) (fun n d => w2 (ix3 0 n d))) (fun k => gf (ix2 0 k)) d := by
  have hz : (![0, 0] : Fin 2 → ℕ) = fun _ => 0 := by decide
  unfold out0_6
  rw [View.canon_unit_zero hz, last_at]
  refine nrm_congr (funext fun e => ?_) (funext fun k => ?_) rfl
  · pointwise [k0_pay3, k0_pay4, k0_pay5, k0_pay6, k0_pay7, k0_pay8, k0_pay9, k0_pay10, k0_pay11, k0_pay12,
      k0_pay13, k0_pay14, k0_pay15, k0_pay16, norm_at, row]
    rw [sum_pieces]
    simp only [hid]
  · pointwise

/-- The windows' block indices at every grid point. -/
theorem idx : ∀ t : Fin cfg0.N, win0_0.index t = ![t.val, 0] ∧ win0_1.index t = ![0, 0] ∧ win0_2.index t = ![1, 0, 0]
    ∧ win0_3.index t = ![1, 0, 0] ∧ win0_4.index t = ![1, 0, 0] ∧ win0_5.index t = ![0, 0] ∧ win0_6.index t = ![t.val, 0] :=
  (by decide +kernel : ∀ t : Fin grid0.N, _)

/-- What a grid point stores is the result array's element at the place its block sits. -/
theorem point (c : Dev nD) (t : Fin cfg0.N) (r : Fin 512) (d : Fin 1024) :
    out0_6 (iblk m c 0 t) (iblk m c 1 t) (iblk m c 2 t) (iblk m c 3 t) (iblk m c 4 t) (iblk m c 5 t) (ix2 r d)
      = spec (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 6).blk t).view.emb (ix2 r d)) := by
  refine (store_at _ _ _ _ _ _ r d).trans (nrm_congr (funext fun e => row_congr (funext fun k => ?_) (funext fun k => ?_)
    (funext fun k => funext fun n => ?_) (funext fun k => funext fun n => ?_) (funext fun n => funext fun e => ?_) rfl)
    (funext fun k => ?_) ?_)
  iterate 6 · blk_point [iblk, V, idx t]
  · refine Fin.ext ?_
    blk_simp [idx t]

/-- The call's result array after the run. -/
theorem final (c : Dev nD) : (dats m 0 c).arrAt 6 (cfgs 0).N
    = spec (m ((c : Thread nD τ).loc main_arg0)) (m ((c : Thread nD τ).loc main_arg1)) (m ((c : Thread nD τ).loc main_arg2))
        (m ((c : Thread nD τ).loc main_arg3)) (m ((c : Thread nD τ).loc main_arg4))
        (m ((c : Thread nD τ).loc main_arg5)) := by
  refine (dats m 0 c).arrAt_eq_of_covers 6 _ (by decide +kernel) fun t _ y => ?_
  blk_simp
  rw [after0_6]
  idx_vars y
  exact point m c t y0 y1

end Cert.FfnLast

end
-- ==== Proof.FfnLastClaim.lean ====
/- The last feed-forward call against its reference: equal results over the extended reals. -/
module

public import proofs.«01_k».proof.Proof.FfnLast
public import proofs.«01_k».proof.Proof.Gen.Reference7Ideal.Run
public import proofs.«01_k».proof.Defs

@[expose] public section

set_option maxRecDepth 16384

noncomputable section

open Idealize.ShloMosaic Idealize.ShloMosaic.TcCoe Idealize.SL.Sem

namespace Cert.FfnLastClaim

set_option maxHeartbeats 2000000 in
/-- The kernel and its reference compute the same array. -/
theorem algebraic : Cert.algebraic_Kernel7Ideal_Reference7Ideal := by
  pair_intro
  · run_from Cert.Kernel7Ideal.Gen.run_main m g
  · run_from Cert.Reference7Ideal.Value.run m' g'
    refine Eq.trans ?_ (Cert.FfnLast.final m c).symm
    funext j
    idx_vars j
    obtain ⟨h0, h1, h2, h3, h4, h5⟩ := hagree c
    unfold Cert.Reference7Ideal.Value.res_main_v39
    pointwise [Cert.FfnLast.spec, Cert.Ffn.row, Cert.Ffn.hid, Cert.Rows.nrm]
    simp only [h0, h1, h2, h3, h4, h5]
    rfl

end Cert.FfnLastClaim

end
-- ==== Proof.BiasSpec.lean ====
/- The relative-position bias: the bucket of a distance, the entry looked up by a bucket's number, and the two tables of
   biases the call leaves. -/
module

public import Idealize.ShloMosaic.Lib.Pointwise

@[expose] public section

noncomputable section

open Idealize.ShloMosaic

namespace Cert.BiasSpec

/-- The bucket of a distance: the distance itself below sixteen, and logarithmic from there on, up to 31. -/
def bucket (w : BitVec 32) : BitVec 32 :=
  Scalar.select (IntOp.cmpi .slt (IntOp.maxsi w 0#32) 16#32) (IntOp.maxsi w 0#32)
    (IntOp.minsi (IntOp.addi 16#32 (FloatOps.fptosi (F := Ideal) (φ := .f32) 32
      (Ideal.div (Ideal.log (Ideal.div (FloatOps.sitofp (F := Ideal) .f32 (IntOp.maxsi (IntOp.maxsi w 0#32) 1#32))
        (Ideal.ofBits .f32 0x41800000#32))) (Ideal.ofBits .f32 0x40051592#32) * Ideal.ofBits .f32 0x41800000#32))) 31#32)

/-- The entry whose number is `w`, or zero where there is none. -/
def pick (f : Fin 32 → EReal) (w : BitVec 32) : EReal := ∑ b : Fin 32, if w = BitVec.ofNat 32 b.val then f b else 0

/-- The first `n` entries tried one after the other: the last one whose number is `w`, or zero. -/
def chain (f : Fin 32 → EReal) (w : BitVec 32) : (n : ℕ) → n ≤ 32 → EReal
  | 0, _ => Ideal.ofBits .f32 0x00000000#32
  | n + 1, h => Scalar.select (IntOp.cmpi .eq w (BitVec.ofNat 32 n)) (f ⟨n, h⟩) (chain f w n (Nat.le_of_succ_le h))

/-- A choice by an equality of words. -/
theorem select_eq (w v : BitVec 32) (a b : EReal) : Scalar.select (IntOp.cmpi .eq w v) a b = if w = v then a else b := by
  by_cases e : w = v
  · simp [Scalar.select, IntOp.cmpi, e]
  · simp [Scalar.select, IntOp.cmpi, e, beq_eq_false_iff_ne.mpr e]

/-- Trying the entries one after the other finds the sum of those whose number is `w`: there is at most one. -/
theorem chain_eq (f : Fin 32 → EReal) (w : BitVec 32) (n : ℕ) (h : n ≤ 32) :
    chain f w n h = ∑ b : Fin n, if w = BitVec.ofNat 32 b.val then f ⟨b.val, lt_of_lt_of_le b.isLt h⟩ else 0 := by
  induction n with
  | zero => simp [chain, Ideal.ofBits_zero_f32]
  | succ n ih =>
    rw [Fin.sum_univ_castSucc, chain, ih, select_eq]
    by_cases e : w = BitVec.ofNat 32 n
    · rw [if_pos e]
      have z : ∀ b : Fin n, w ≠ BitVec.ofNat 32 b.val := fun b hb => by
        have t := congrArg BitVec.toNat (e.symm.trans hb)
        rw [BitVec.toNat_ofNat, BitVec.toNat_ofNat] at t
        have := b.isLt
        omega
      have q : (∑ b : Fin n, if w = BitVec.ofNat 32 b.castSucc.val
          then f ⟨b.castSucc.val, lt_of_lt_of_le b.castSucc.isLt h⟩ else 0) = 0 :=
        Finset.sum_eq_zero fun b _ => if_neg (z b)
      rw [q, zero_add]
      exact (if_pos e).symm
    · simp [e]

/-- All the entries tried one after the other. -/
theorem chain_pick (f : Fin 32 → EReal) (w : BitVec 32) : chain f w 32 le_rfl = pick f w := chain_eq f w 32 le_rfl

/-- One term of a lookup by a row of zeros and a one. -/
theorem one_hot (w v : BitVec 32) (a : EReal) :
    FloatOps.uitofp (F := Ideal) .f32 (IntOp.cmpi .eq w v) * a = if w = v then a else 0 := by
  by_cases e : w = v
  · rw [if_pos e, show IntOp.cmpi .eq w v = 1#1 by simp [IntOp.cmpi, e]]
    exact (congrArg (· * a) (show FloatOps.uitofp (F := Ideal) .f32 (1#1) = (1 : EReal) by simp [FloatOps.uitofp])).trans (one_mul a)
  · rw [if_neg e, show IntOp.cmpi .eq w v = 0#1 by simp [IntOp.cmpi, beq_eq_false_iff_ne.mpr e]]
    exact (congrArg (· * a) (show FloatOps.uitofp (F := Ideal) .f32 (0#1) = (0 : EReal) by simp [FloatOps.uitofp])).trans (zero_mul a)

/-- A lookup by a row of zeros and a one is the entry of that number. -/
theorem one_hot_pick (w : BitVec 32) (f : Fin 32 → EReal) :
    (∑ b : Fin 32, FloatOps.uitofp (F := Ideal) .f32 (IntOp.cmpi .eq w (BitVec.ofNat 32 b.val)) * f b) = pick f w :=
  Finset.sum_congr rfl fun b _ => one_hot w _ (f b)

end Cert.BiasSpec

end
-- ==== Proof.BiasKernel.lean ====
/- The bias tables: what the call leaves in its two result arrays, as functions of the bias array. -/
module

public import proofs.«01_k».proof.Proof.Gen.Kernel8Ideal.Value
public import proofs.«01_k».proof.Proof.BiasSpec
public import Idealize.ShloMosaic.Lib.Pointwise
public import Idealize.ShloMosaic.Lib.WritesUnit
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.BiasKernel

open Cert.Kernel8Ideal Cert.Kernel8Ideal.Gen Cert.BiasSpec

/-- The distance at a place of the two tiles: within a block, and to the block before. -/
def tileDist (s : Fin 2) (r k : Fin 256) : BitVec 32 :=
  if s = 0 then BitVec.ofNat 32 r.val - BitVec.ofNat 32 k.val else 256#32 + BitVec.ofNat 32 r.val - BitVec.ofNat 32 k.val

/-- The distance of the token after a block from a place of one half of the block. -/
def nearDist (s : Fin 2) (k : Fin 128) : BitVec 32 :=
  if s = 0 then 256#32 - (0#32 + BitVec.ofNat 32 k.val) else 256#32 - (128#32 + BitVec.ofNat 32 k.val)

/-- The first result array: every head's biases of a block's own pairs, and of those one block back. -/
def tiles (B : FVec Ideal S32x8 .f32) : FVec Ideal S8x2x256x256 .f32 := fun j =>
  pick (fun b => B (ix2 b (j 0))) (bucket (tileDist (j 1) (j 2) (j 3)))

/-- The second result array: every head's biases of the next token against the block's two halves, in eight equal rows. -/
def near (B : FVec Ideal S32x8 .f32) : FVec Ideal S8x2x8x128 .f32 := fun j =>
  pick (fun b => B (ix2 b (j 0))) (bucket (nearDist (j 1) (j 3)))

theorem tiles_at (B : FVec Ideal S32x8 .f32) (h : Fin 8) (s : Fin 2) (r k : Fin 256) :
    tiles B (ix4 h s r k) = pick (fun b => B (ix2 b h)) (bucket (tileDist s r k)) := rfl

theorem near_at (B : FVec Ideal S32x8 .f32) (h : Fin 8) (s : Fin 2) (r : Fin 8) (k : Fin 128) :
    near B (ix4 h s r k) = pick (fun b => B (ix2 b h)) (bucket (nearDist s k)) := rfl

section
variable (c : Dev nD) (i : grid0.Coords) (arg1 : Memref sig .tc .smem S32x8 .f32) (harg1 : arg1.IsWhole)
  (arg2 : Memref sig .tc .vmem S1x2x256x256 .f32) (harg2 : arg2.IsWhole) (arg3 : Memref sig .tc .vmem S1x2x8x128 .f32)
  (harg3 : arg3.IsWhole) (x : Vec Ideal S32x8 .f32)

/-- Where the point reads the `n`-th entry of its head. -/
def off (n : ℕ) : Fin 2 → ℕ := ![n, (Scalar.indexCast (BitVec.ofNat 32 (i 0).val)).toNat]

theorem off_eq : ∀ (i : grid0.Coords) (n : ℕ), off i n = ![n, (i 0).val] := by
  intro i n
  have h : (i 0).val < 8 := (i 0).isLt
  have e : (Scalar.indexCast (BitVec.ofNat 32 (i 0).val)).toNat = (i 0).val :=
    (BitVec.toNat_ofNat _ _).trans (Nat.mod_eq_of_lt (by omega))
  unfold off
  rw [e]

theorem inb (n : Fin 32) (a : Fin 2) : off i n.val a + S1x1.size a ≤ S32x8.size a := by
  have h : (i 0).val < 8 := (i 0).isLt
  rw [off_eq]
  match a with
  | 0 => exact n.isLt
  | 1 => exact h

/-- The `n`-th entry as the point reads it. -/
def elem (n : Fin 32) : EReal :=
  View.readAt (Elt Ideal) arg1.view (Rect.unit (s := S32x8) (off i n.val) S1x1.size (inb i n)).toLoadRect (harg1.unread x)
    (Shape.Idx.first (s := S1x1) (by decide))

/-- It is the array's entry of the point's head. -/
theorem elem_eq (n : Fin 32) : elem i arg1 harg1 x n = x (ix2 n (i 0)) := by
  unfold elem
  rw [View.readAt_apply]
  have e : (Rect.unit (s := S32x8) (off i n.val) S1x1.size (inb i n)).idx (Shape.Idx.first (s := S1x1) (by decide)) = ix2 n (i 0) := by
    funext a
    apply Fin.ext
    refine (Rect.idx_unit_val _ _ _ _ _).trans ((congrArg (· + _) (congrFun (off_eq i n.val) a)).trans ?_)
    match a with
    | 0 => rfl
    | 1 => rfl
  exact (congrArg _ e).trans (congrFun (harg1.read_unread x) _)

theorem lookup (w : BitVec 32) : chain (elem i arg1 harg1 x) w 32 le_rfl = pick (fun b => x (ix2 b (i 0))) w := by
  rw [chain_pick, funext (elem_eq i arg1 harg1 x)]

theorem own_bucket (r k : Fin 256) : k0_pay2 (F := Ideal) (ix2 r k) = bucket (tileDist 0 r k) := by
  pointwise [k0_pay2, bucket, tileDist]
  rfl

theorem back_bucket (r k : Fin 256) : k0_pay13 (F := Ideal) kernelRun0_A.sl.v0 kernelRun0_A.sl.v1 kernelRun0_A.sl.v219 (ix2 r k) = bucket (tileDist 1 r k) := by
  pointwise [k0_pay13, kernelRun0_A.sl.v0, kernelRun0_A.sl.v1, kernelRun0_A.sl.v219, bucket, tileDist]
  rfl

theorem tile0_at (r k : Fin 256) : kernelRun0_A.sl.v218 c i arg1 harg1 x (ix4 0 0 r k) = pick (fun b => x (ix2 b (i 0))) (bucket (tileDist 0 r k)) := by
  rw [← own_bucket, ← lookup i arg1 harg1 x]
  pointwise [kernelRun0_A.sl.v218]
  rfl

theorem tile1_at (r k : Fin 256) : kernelRun0_A.sl.v437 c i arg1 harg1 x (ix4 0 0 r k) = pick (fun b => x (ix2 b (i 0))) (bucket (tileDist 1 r k)) := by
  rw [← back_bucket, ← lookup i arg1 harg1 x]
  pointwise [kernelRun0_A.sl.v437]
  rfl

/-- The block of biases the point stores. -/
theorem out1_at (s : Fin 2) (r k : Fin 256) : out0_A_1 c i arg1 harg1 arg2 harg2 arg3 harg3 x (ix4 0 s r k)
    = pick (fun b => x (ix2 b (i 0))) (bucket (tileDist s r k)) := by
  unfold out0_A_1 kernelRun0_A
  dsimp only
  match s with
  | 0 =>
    refine (View.read_writes_cons_unit_of_not_mem VO0_1 _ _ _ _ _ rfl 1 (Or.inl (show (0 : ℕ) < 1 from Nat.one_pos))).trans ?_
    refine (View.read_writes_cons_unit_of_mem VO0_1 _ _ _ _ _ (ix4 0 0 r k) rfl fun a => ?_).trans (tile0_at c i arg1 harg1 x r k)
    match a with
    | 0 => rfl
    | 1 => rfl
    | 2 => exact (Nat.zero_add _).symm
    | 3 => exact (Nat.zero_add _).symm
  | 1 =>
    refine (View.read_writes_cons_unit_of_mem VO0_1 _ _ _ _ _ (ix4 0 0 r k) rfl fun a => ?_).trans (tile1_at c i arg1 harg1 x r k)
    match a with
    | 0 => rfl
    | 1 => rfl
    | 2 => exact (Nat.zero_add _).symm
    | 3 => exact (Nat.zero_add _).symm

theorem near0_bucket (r : Fin 8) (k : Fin 128) : kernelRun0_A.sl.r_34 (F := Ideal) (ix2 r k) = bucket (nearDist 0 k) := by
  unfold kernelRun0_A.sl.r_34
  pointwise [k0_pay22, kernelRun0_A.sl.v439, kernelRun0_A.sl.v438, bucket, nearDist]
  rfl

theorem near1_bucket (r : Fin 8) (k : Fin 128) : kernelRun0_A.sl.r_37 (F := Ideal) (ix2 r k) = bucket (nearDist 1 k) := by
  unfold kernelRun0_A.sl.r_37
  pointwise [k0_pay35, kernelRun0_A.sl.v659, kernelRun0_A.sl.v438, bucket, nearDist]
  rfl

theorem near0_at (r : Fin 8) (k : Fin 128) : kernelRun0_A.sl.v658 c i arg1 harg1 x (ix4 0 0 r k) = pick (fun b => x (ix2 b (i 0))) (bucket (nearDist 0 k)) := by
  rw [← near0_bucket r, ← lookup i arg1 harg1 x]
  pointwise [kernelRun0_A.sl.v658]
  rfl

theorem near1_at (r : Fin 8) (k : Fin 128) : k0_pay1 (F := Ideal) (kernelRun0_A.sl.r_37 (F := Ideal)) (kernelRun0_A.sl.r_45 c i arg1 harg1 x) (kernelRun0_A.sl.r_46 c i arg1 harg1 x) (ix4 0 0 r k)
    = pick (fun b => x (ix2 b (i 0))) (bucket (nearDist 1 k)) := by
  rw [← near1_bucket r, ← lookup i arg1 harg1 x]
  pointwise [k0_pay1]
  rfl

/-- The block of next-token biases the point stores. -/
theorem out2_at (s : Fin 2) (r : Fin 8) (k : Fin 128) : out0_A_2 c i arg1 harg1 arg2 harg2 arg3 harg3 x (ix4 0 s r k)
    = pick (fun b => x (ix2 b (i 0))) (bucket (nearDist s k)) := by
  unfold out0_A_2 kernelRun0_A
  dsimp only
  match s with
  | 0 =>
    refine (View.read_writes_cons_unit_of_not_mem VO0_2 _ _ _ _ _ rfl 1 (Or.inl (show (0 : ℕ) < 1 from Nat.one_pos))).trans ?_
    refine (View.read_writes_cons_unit_of_mem VO0_2 _ _ _ _ _ (ix4 0 0 r k) rfl fun a => ?_).trans (near0_at c i arg1 harg1 x r k)
    match a with
    | 0 => rfl
    | 1 => rfl
    | 2 => exact (Nat.zero_add _).symm
    | 3 => exact (Nat.zero_add _).symm
  | 1 =>
    refine (View.read_writes_cons_unit_of_mem VO0_2 _ _ _ _ _ (ix4 0 0 r k) rfl fun a => ?_).trans (near1_at c i arg1 harg1 x r k)
    match a with
    | 0 => rfl
    | 1 => rfl
    | 2 => exact (Nat.zero_add _).symm
    | 3 => exact (Nat.zero_add _).symm

end

section
variable (m : (ℓ : Loc nD τ sig) → Buf (Elt Ideal) ℓ) (c : Dev nD) (t : Fin cfg0.N)

/-- The windows' block indices at every grid point. -/
theorem idx : ∀ t : Fin cfg0.N, win0_0.index t = ![0, 0] ∧ win0_1.index t = ![t.val, 0, 0, 0] ∧ win0_2.index t = ![t.val, 0, 0, 0] :=
  (by decide +kernel : ∀ t : Fin grid0.N, _)

theorem lt8 : ∀ t : Fin cfg0.N, t.val < 8 := (by decide +kernel : ∀ t : Fin grid0.N, t.val < 8)

theorem coord : ∀ t : Fin cfg0.N, (grid0.coords t 0).val = t.val := (by decide +kernel : ∀ t : Fin grid0.N, (grid0.coords t 0).val = t.val)

/-- The point's head. -/
def head : Fin 8 := ⟨t.val, lt8 t⟩

theorem head_eq : (grid0.coords t 0 : Fin 8) = head t := Fin.ext (coord t)

theorem bias_blk (b : Fin 32) (h : Fin 8) : (iblk m c 0 t : Vec Ideal S32x8 .f32) (ix2 b h) = (m ((c : Thread nD τ).loc main_arg0)) (ix2 b h) := by
  blk_point [iblk, V, idx t]

theorem place1 (a : Fin 1) (s : Fin 2) (r k : Fin 256) : (((cfg0.win 1).blk t).view.emb (ix4 a s r k) : S8x2x256x256.Idx) = ix4 (head t) s r k := by
  unfold head
  blk_ext [idx t]

theorem place2 (a : Fin 1) (s : Fin 2) (r : Fin 8) (k : Fin 128) : (((cfg0.win 2).blk t).view.emb (ix4 a s r k) : S8x2x8x128.Idx) = ix4 (head t) s r k := by
  unfold head
  blk_ext [idx t]

theorem column : (fun b => (iblk m c 0 t : Vec Ideal S32x8 .f32) (ix2 b (grid0.coords t 0))) = fun b => (m ((c : Thread nD τ).loc main_arg0)) (ix2 b (head t)) :=
  funext fun b => (bias_blk m c t b _).trans (congrArg (fun h => (m ((c : Thread nD τ).loc main_arg0)) (ix2 b h)) (head_eq t))

theorem outs1 (s : Fin 2) (r k : Fin 256) : (outsAt0 m c t).1 (ix4 0 s r k) = tiles (m ((c : Thread nD τ).loc main_arg0)) (ix4 (head t) s r k) := by
  unfold outsAt0
  dsimp only
  rw [out1_at, column m c t, tiles_at]

theorem outs2 (s : Fin 2) (r : Fin 8) (k : Fin 128) : (outsAt0 m c t).2 (ix4 0 s r k) = near (m ((c : Thread nD τ).loc main_arg0)) (ix4 (head t) s r k) := by
  unfold outsAt0
  dsimp only
  rw [out2_at, column m c t, near_at]

/-- The call's first result array after the run. -/
theorem final1 : (dats m 0 c).arrAt 1 (cfgs 0).N = tiles (m ((c : Thread nD τ).loc main_arg0)) := by
  refine (dats m 0 c).arrAt_eq_of_covers 1 _ (by decide +kernel) fun t _ y => ?_
  blk_simp
  rw [after0_1]
  idx_vars y
  obtain rfl : y0 = 0 := Subsingleton.elim _ _
  exact (outs1 m c t y1 y2 y3).trans (congrArg (tiles (m ((c : Thread nD τ).loc main_arg0))) (place1 t 0 y1 y2 y3)).symm

/-- The call's second result array after the run. -/
theorem final2 : (dats m 0 c).arrAt 2 (cfgs 0).N = near (m ((c : Thread nD τ).loc main_arg0)) := by
  refine (dats m 0 c).arrAt_eq_of_covers 2 _ (by decide +kernel) fun t _ y => ?_
  blk_simp
  rw [after0_2]
  idx_vars y
  obtain rfl : y0 = 0 := Subsingleton.elim _ _
  exact (outs2 m c t y1 y2 y3).trans (congrArg (near (m ((c : Thread nD τ).loc main_arg0))) (place2 t 0 y1 y2 y3)).symm

end

end Cert.BiasKernel

end
-- ==== Proof.BiasClaim.lean ====
/- The bias tables against their reference: equal results over the extended reals. -/
module

public import proofs.«01_k».proof.Proof.BiasKernel
public import proofs.«01_k».proof.Proof.Gen.Reference8Ideal.Run
public import proofs.«01_k».proof.Defs

@[expose] public section

set_option maxRecDepth 16384

noncomputable section

open Idealize.ShloMosaic Idealize.ShloMosaic.TcCoe Idealize.SL.Sem

namespace Cert.BiasClaim

open Cert.BiasKernel Cert.BiasSpec

/-- The kernel and its reference compute the same two arrays. -/
theorem algebraic : Cert.algebraic_Kernel8Ideal_Reference8Ideal := by
  intro m g m' g' hpre hagree
  refine ⟨fun c => tiles (m ((c : Thread Cert.Kernel8Ideal.nD Cert.Kernel8Ideal.τ).loc Cert.Kernel8Ideal.main_arg0)),
    fun c => near (m ((c : Thread Cert.Kernel8Ideal.nD Cert.Kernel8Ideal.τ).loc Cert.Kernel8Ideal.main_arg0)), ?_, ?_⟩
  · refine θ_run_mono (Cert.Kernel8Ideal.Value.run_blocks m g) fun r hr c => ?_
    obtain ⟨k0, k1, rest⟩ := hr c
    exact ⟨k0.trans (final1 m c), k1.trans (final2 m c), rest⟩
  · refine θ_run_mono (Cert.Reference8Ideal.Value.run m' g') fun r hr c => ?_
    obtain ⟨k0, k1, rest⟩ := hr c
    have e0 := hagree c
    refine ⟨(k0.trans ?_).trans (congrArg tiles e0), (k1.trans ?_).trans (congrArg near e0), rest⟩
    · clear k0 k1 hr
      funext j
      idx_vars j
      unfold Cert.Reference8Ideal.Value.res_main_v33
      pointwise [tiles]
      refine (one_hot_pick _ fun b => m' ((c : Thread Cert.Reference8Ideal.nD Cert.Reference8Ideal.τ).loc Cert.Reference8Ideal.main_arg0) (ix2 b j0)).trans ?_
      have w : (if h : j1.val < 1 then BitVec.ofNat 32 j2.val - BitVec.ofNat 32 j3.val
          else 256#32 + (BitVec.ofNat 32 j2.val - BitVec.ofNat 32 j3.val)) = tileDist j1 j2 j3 := by
        match j1 with
        | 0 => rfl
        | 1 => exact (show 256#32 + (BitVec.ofNat 32 j2.val - BitVec.ofNat 32 j3.val) = 256#32 + BitVec.ofNat 32 j2.val - BitVec.ofNat 32 j3.val by
            rw [BitVec.sub_eq_add_neg, BitVec.sub_eq_add_neg, BitVec.add_assoc])
      rw [← w]
      rfl
    · clear k0 k1 hr
      funext j
      idx_vars j
      pointwise [near]
      refine (one_hot_pick _ fun b => m' ((c : Thread Cert.Reference8Ideal.nD Cert.Reference8Ideal.τ).loc Cert.Reference8Ideal.main_arg0) (ix2 b j0)).trans ?_
      have w : 256#32 - BitVec.ofNat 32 (j1.val * 128 + j3.val) = nearDist j1 j3 := by
        match j1 with
        | 0 => exact congrArg (256#32 - ·) (BitVec.ofNat_add _ _)
        | 1 => exact congrArg (256#32 - ·) (BitVec.ofNat_add _ _)
      rw [← w]
      rfl

end Cert.BiasClaim

end
-- ==== Proof.lean ====
/- Assembles `Cert.Claim`: the frames of the eight calls and of their references, and the value claims. -/
module

public import proofs.«01_k».proof.Proof.Gen.Reference8Ideal
public import proofs.«01_k».proof.Proof.Gen.Kernel8Ideal.Frame
public import proofs.«01_k».proof.Proof.Gen.Kernel8Ideal.Points
public import proofs.«01_k».proof.Proof.Gen.Kernel8Ideal.Launch
public import proofs.«01_k».proof.Proof.Gen.Kernel8Ideal.Skeleton
public import proofs.«01_k».proof.Proof.Gen.Kernel8Ideal
public import proofs.«01_k».proof.Proof.Gen.Kernel8.Frame
public import proofs.«01_k».proof.Proof.Gen.Kernel8.Points
public import proofs.«01_k».proof.Proof.Gen.Kernel8.Launch
public import proofs.«01_k».proof.Proof.Gen.Kernel8.Skeleton
public import proofs.«01_k».proof.Proof.Gen.Kernel8
public import proofs.«01_k».proof.Proof.Gen.Reference8Ideal.Run
public import proofs.«01_k».proof.Proof.Gen.Kernel8Ideal.Value
public import proofs.«01_k».proof.Proof.Gen.Reference7Ideal
public import proofs.«01_k».proof.Proof.Gen.Kernel7Ideal.Frame
public import proofs.«01_k».proof.Proof.Gen.Kernel7Ideal.Points
public import proofs.«01_k».proof.Proof.Gen.Kernel7Ideal.Launch
public import proofs.«01_k».proof.Proof.Gen.Kernel7Ideal.Skeleton
public import proofs.«01_k».proof.Proof.Gen.Kernel7Ideal
public import proofs.«01_k».proof.Proof.Gen.Kernel7.Frame
public import proofs.«01_k».proof.Proof.Gen.Kernel7.Points
public import proofs.«01_k».proof.Proof.Gen.Kernel7.Launch
public import proofs.«01_k».proof.Proof.Gen.Kernel7.Skeleton
public import proofs.«01_k».proof.Proof.Gen.Kernel7
public import proofs.«01_k».proof.Proof.Gen.Reference7Ideal.Run
public import proofs.«01_k».proof.Proof.Gen.Kernel7Ideal.Value
public import proofs.«01_k».proof.Proof.Gen.Reference6Ideal
public import proofs.«01_k».proof.Proof.Gen.Kernel6Ideal.Frame
public import proofs.«01_k».proof.Proof.Gen.Kernel6Ideal.Points
public import proofs.«01_k».proof.Proof.Gen.Kernel6Ideal.Launch
public import proofs.«01_k».proof.Proof.Gen.Kernel6Ideal.Skeleton
public import proofs.«01_k».proof.Proof.Gen.Kernel6Ideal
public import proofs.«01_k».proof.Proof.Gen.Kernel6.Frame
public import proofs.«01_k».proof.Proof.Gen.Kernel6.Points
public import proofs.«01_k».proof.Proof.Gen.Kernel6.Launch
public import proofs.«01_k».proof.Proof.Gen.Kernel6.Skeleton
public import proofs.«01_k».proof.Proof.Gen.Kernel6
public import proofs.«01_k».proof.Proof.Gen.Reference6Ideal.Run
public import proofs.«01_k».proof.Proof.Gen.Kernel6Ideal.Value
public import proofs.«01_k».proof.Proof.Gen.Reference5Ideal
public import proofs.«01_k».proof.Proof.Gen.Kernel5Ideal.Frame
public import proofs.«01_k».proof.Proof.Gen.Kernel5Ideal.Points
public import proofs.«01_k».proof.Proof.Gen.Kernel5Ideal.Launch
public import proofs.«01_k».proof.Proof.Gen.Kernel5Ideal.Loops
public import proofs.«01_k».proof.Proof.Gen.Kernel5Ideal.Skeleton
public import proofs.«01_k».proof.Proof.Gen.Kernel5Ideal
public import proofs.«01_k».proof.Proof.Gen.Kernel5.Frame
public import proofs.«01_k».proof.Proof.Gen.Kernel5.Points
public import proofs.«01_k».proof.Proof.Gen.Kernel5.Launch
public import proofs.«01_k».proof.Proof.Gen.Kernel5.Loops
public import proofs.«01_k».proof.Proof.Gen.Kernel5.Skeleton
public import proofs.«01_k».proof.Proof.Gen.Kernel5
public import proofs.«01_k».proof.Proof.Gen.Reference5Ideal.Run
public import proofs.«01_k».proof.Proof.Gen.Kernel5Ideal.Value
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import Idealize.ShloMosaic.Adequacy
public import Idealize.ShloMosaic.Init
public import proofs.«01_k».proof.Proof.FfnClaim
public import proofs.«01_k».proof.Proof.InprojClaim
public import proofs.«01_k».proof.Proof.MergeClaim
public import proofs.«01_k».proof.Proof.Frames
public import proofs.«01_k».proof.Proof.LruClaim
public import proofs.«01_k».proof.Proof.StickClaim
public import proofs.«01_k».proof.Proof.StepClaim
public import proofs.«01_k».proof.Proof.FfnLastClaim
public import proofs.«01_k».proof.Proof.BiasClaim

@[expose] public section

noncomputable section

namespace Cert.Proof

open Idealize.ShloMosaic Idealize.SL.Sem

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    fun m g _ => Cert.Kernel.Gen.frame m g,
    fun m g _ => Cert.KernelIdeal.Gen.frame m g,
    Cert.Frames.reference,
    fun m g _ => Cert.Kernel2.Gen.frame m g,
    fun m g _ => Cert.Kernel2Ideal.Gen.frame m g,
    Cert.Frames.reference2,
    fun m g _ => Cert.Kernel3.Gen.frame m g,
    fun m g _ => Cert.Kernel3Ideal.Gen.frame m g,
    Cert.Frames.reference3,
    fun m g _ => Cert.Kernel4.Gen.frame m g,
    fun m g _ => Cert.Kernel4Ideal.Gen.frame m g,
    Cert.Frames.reference4,
    fun m g _ => Cert.Kernel5.Gen.frame m g,
    fun m g _ => Cert.Kernel5Ideal.Gen.frame m g,
    Cert.Frames.reference5,
    fun m g _ => Cert.Kernel6.Gen.frame m g,
    fun m g _ => Cert.Kernel6Ideal.Gen.frame m g,
    Cert.Frames.reference6,
    fun m g _ => Cert.Kernel7.Gen.frame m g,
    fun m g _ => Cert.Kernel7Ideal.Gen.frame m g,
    Cert.Frames.reference7,
    fun m g _ => Cert.Kernel8.Gen.frame m g,
    fun m g _ => Cert.Kernel8Ideal.Gen.frame m g,
    Cert.Frames.reference8,
    trivial,
    Cert.LruClaim.algebraic,
    trivial,
    Cert.FfnClaim.algebraic,
    trivial,
    Cert.InprojClaim.algebraic,
    trivial,
    Cert.MergeClaim.algebraic,
    trivial,
    Cert.StickClaim.algebraic,
    trivial,
    Cert.StepClaim.algebraic,
    trivial,
    Cert.FfnLastClaim.algebraic,
    trivial,
    Cert.BiasClaim.algebraic⟩

end Cert.Proof

end
